-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![256, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![256, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S256x2048 : Shape := ⟨2, ![256, 2048]⟩
abbrev S4x64x2048 : Shape := ⟨3, ![4, 64, 2048]⟩
abbrev S6x64x2048 : Shape := ⟨3, ![6, 64, 2048]⟩
abbrev S2x2048x2048 : Shape := ⟨3, ![2, 2048, 2048]⟩
abbrev S3 : Shape := ⟨1, ![3]⟩
abbrev S2 : Shape := ⟨1, ![2]⟩
abbrev S_ : Shape := ⟨0, ![]⟩
abbrev S1x64x2048 : Shape := ⟨3, ![1, 64, 2048]⟩
abbrev S1 : Shape := ⟨1, ![1]⟩
abbrev S1x2048x2048 : Shape := ⟨3, ![1, 2048, 2048]⟩
abbrev S2048x2048 : Shape := ⟨2, ![2048, 2048]⟩

abbrev nBuf : Space → Nat
  | .hbm => 8
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S256x2048, .bf16⟩
  | .local _ .vmem, ⟨3, _⟩ => ⟨S256x2048, .f32⟩
  | .local _ .vmem, ⟨4, _⟩ => ⟨S4x64x2048, .bf16⟩
  | .local _ .vmem, ⟨5, _⟩ => ⟨S6x64x2048, .bf16⟩
  | .local _ .vmem, ⟨6, _⟩ => ⟨S2x2048x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v46 : BitVec 32 := Scalar.muli v24 c1_i32_39
  let v47 : BitVec 32 := Scalar.addi c0_i32_40 v46
  v47.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_49 : BitVec 32 := 1#32
  let v56 : BitVec 32 := Scalar.muli v13 c1_i32_49
  let v57 : BitVec 32 := Scalar.addi c0_i32_50 v56
  v57.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v68 : BitVec 32 := Scalar.muli v2 c64_i32
  let v69 : Index := Scalar.indexCast v68
  let c0_58 : Index := 0#32
  ![v69.toNat, 0]
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_81 : BitVec 32 := 1#32
  let v87 : BitVec 32 := Scalar.muli v24 c1_i32_81
  let v88 : BitVec 32 := Scalar.addi c0_i32_82 v87
  v88.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c64_i32_89 : BitVec 32 := 64#32
  let v99 : BitVec 32 := Scalar.muli v13 c64_i32_89
  let v100 : Index := Scalar.indexCast v99
  let c0_90 : Index := 0#32
  ![v100.toNat, 0]
def k0_off3 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c64_i32_112 : BitVec 32 := 64#32
  let v120 : BitVec 32 := Scalar.muli v24 c64_i32_112
  let v121 : Index := Scalar.indexCast v120
  let c0_113 : Index := 0#32
  ![v121.toNat, 0]
def k0_dev6 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_232 : BitVec 32 := 1#32
  let v246 : BitVec 32 := Scalar.muli v24 c1_i32_232
  let v247 : BitVec 32 := Scalar.addi c0_i32_233 v246
  v247.toNat
def k0_dev7 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_274 : BitVec 32 := 1#32
  let v288 : BitVec 32 := Scalar.muli v24 c1_i32_274
  let v289 : BitVec 32 := Scalar.addi c0_i32_275 v288
  v289.toNat
def k0_dev8 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_283 : BitVec 32 := 1#32
  let v298 : BitVec 32 := Scalar.muli v13 c1_i32_283
  let v299 : BitVec 32 := Scalar.addi c0_i32_284 v298
  v299.toNat
def k0_dev9 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_340 : BitVec 32 := 1#32
  let v351 : BitVec 32 := Scalar.muli v24 c1_i32_340
  let v352 : BitVec 32 := Scalar.addi c0_i32_341 v351
  v352.toNat
def k0_dev10 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_350 : BitVec 32 := 1#32
  let v361 : BitVec 32 := Scalar.muli v13 c1_i32_350
  let v362 : BitVec 32 := Scalar.addi c0_i32_351 v361
  v362.toNat
def k0_dev11 (d0 : Dev nD) : Nat :=
  let c0_i32_385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_384 : BitVec 32 := 1#32
  let v392 : BitVec 32 := Scalar.muli v24 c1_i32_384
  let v393 : BitVec 32 := Scalar.addi c0_i32_385 v392
  v393.toNat
def k0_dev12 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_540 : BitVec 32 := 1#32
  let v551 : BitVec 32 := Scalar.muli v24 c1_i32_540
  let v552 : BitVec 32 := Scalar.addi c0_i32_541 v551
  v552.toNat
def k0_dev13 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_582 : BitVec 32 := 1#32
  let v593 : BitVec 32 := Scalar.muli v24 c1_i32_582
  let v594 : BitVec 32 := Scalar.addi c0_i32_583 v593
  v594.toNat
def k0_dev14 (d0 : Dev nD) : Nat :=
  let c0_i32_593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_592 : BitVec 32 := 1#32
  let v603 : BitVec 32 := Scalar.muli v13 c1_i32_592
  let v604 : BitVec 32 := Scalar.addi c0_i32_593 v603
  v604.toNat
def k0_dev15 (d0 : Dev nD) : Nat :=
  let c0_i32_652 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_651 : BitVec 32 := 1#32
  let v656 : BitVec 32 := Scalar.muli v24 c1_i32_651
  let v657 : BitVec 32 := Scalar.addi c0_i32_652 v656
  v657.toNat
def k0_dev16 (d0 : Dev nD) : Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_661 : BitVec 32 := 1#32
  let v666 : BitVec 32 := Scalar.muli v13 c1_i32_661
  let v667 : BitVec 32 := Scalar.addi c0_i32_662 v666
  v667.toNat
def k0_dev17 (d0 : Dev nD) : Nat :=
  let c0_i32_696 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_695 : BitVec 32 := 1#32
  let v697 : BitVec 32 := Scalar.muli v24 c1_i32_695
  let v698 : BitVec 32 := Scalar.addi c0_i32_696 v697
  v698.toNat
def k0_dev18 (d0 : Dev nD) : Nat :=
  let c0_i32_840 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_839 : BitVec 32 := 1#32
  let v846 : BitVec 32 := Scalar.muli v24 c1_i32_839
  let v847 : BitVec 32 := Scalar.addi c0_i32_840 v846
  v847.toNat
def k0_dev19 (d0 : Dev nD) : Nat :=
  let c0_i32_882 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_881 : BitVec 32 := 1#32
  let v888 : BitVec 32 := Scalar.muli v24 c1_i32_881
  let v889 : BitVec 32 := Scalar.addi c0_i32_882 v888
  v889.toNat
def k0_dev20 (d0 : Dev nD) : Nat :=
  let c0_i32_892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_891 : BitVec 32 := 1#32
  let v898 : BitVec 32 := Scalar.muli v13 c1_i32_891
  let v899 : BitVec 32 := Scalar.addi c0_i32_892 v898
  v899.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S2048x16384 : Shape := ⟨2, ![2048, 16384]⟩
abbrev S16384x2048 : Shape := ⟨2, ![16384, 2048]⟩
abbrev S256x16384 : Shape := ⟨2, ![256, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S256x16384, .f32⟩
  | .hbm, ⟨8, _⟩ => ⟨S_, .f32⟩
  | .hbm, ⟨9, _⟩ => ⟨S256x16384, .f32⟩
  | .hbm, ⟨10, _⟩ => ⟨S256x16384, .f32⟩
  | .hbm, ⟨11, _⟩ => ⟨S256x2048, .f32⟩
  | .hbm, ⟨12, _⟩ => ⟨S256x16384, .f32⟩
  | .hbm, ⟨13, _⟩ => ⟨S_, .f32⟩
  | .hbm, ⟨14, _⟩ => ⟨S256x16384, .f32⟩
  | .hbm, ⟨15, _⟩ => ⟨S256x16384, .f32⟩
  | .hbm, ⟨16, _⟩ => ⟨S256x2048, .f32⟩
  | .hbm, ⟨17, _⟩ => ⟨S256x16384, .f32⟩
  | .hbm, ⟨18, _⟩ => ⟨S_, .f32⟩
  | .hbm, ⟨19, _⟩ => ⟨S256x16384, .f32⟩
  | .hbm, ⟨20, _⟩ => ⟨S256x16384, .f32⟩
  | .hbm, ⟨21, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Segs.lean ====
/-
# The kernel's body as a chain of segments

The body is three identical layers on a ring of four devices: an all-gather of the activations (three transfers), two
tile products against weight tiles copied into a double buffer, and a reduce-scatter (three transfers). This module
names the operations (a load or store of a slot of a landing buffer, one of the six remote transfers and its two waits,
a weight copy and its wait), spells a layer as a program over them, and proves the body equal to the chain of its
segments by definitional unfolding.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-! ## The memrefs and semaphores of the body -/

abbrev xgM : Memref sig .tc .vmem S256x2048 .bf16 := Memref.whole cc0_scratch0
abbrev ptM : Memref sig .tc .vmem S256x2048 .f32 := Memref.whole cc0_scratch1
abbrev agM : Memref sig .tc .vmem S4x64x2048 .bf16 := Memref.whole cc0_scratch2
abbrev rsM : Memref sig .tc .vmem S6x64x2048 .bf16 := Memref.whole cc0_scratch3
abbrev wsM : Memref sig .tc .vmem S2x2048x2048 .f32 := Memref.whole cc0_scratch4

theorem inb_ag : ∀ i : Fin 4, ∀ a, (![i.val, 0, 0] : Fin 3 → Nat) a + S1x64x2048.size a ≤ S4x64x2048.size a := by decide
theorem inb_rs : ∀ i : Fin 6, ∀ a, (![i.val, 0, 0] : Fin 3 → Nat) a + S1x64x2048.size a ≤ S6x64x2048.size a := by decide
theorem inb_ws : ∀ i : Fin 2, ∀ a, (![i.val, 0, 0] : Fin 3 → Nat) a + S1x2048x2048.size a ≤ S2x2048x2048.size a := by decide

/-- Slot `i` of the all-gather's landing buffer, of the reduce-scatter's buffer, and of the weight double buffer. -/
abbrev agR (i : Fin 4) : Rect S4x64x2048 := Rect.unit (s := S4x64x2048) ![i.val, 0, 0] S1x64x2048.size (inb_ag i)
abbrev rsR (i : Fin 6) : Rect S6x64x2048 := Rect.unit (s := S6x64x2048) ![i.val, 0, 0] S1x64x2048.size (inb_rs i)
abbrev wsR (i : Fin 2) : Rect S2x2048x2048 := Rect.unit (s := S2x2048x2048) ![i.val, 0, 0] S1x2048x2048.size (inb_ws i)

theorem words_ag : ∀ i : Fin 4, (agR i).WholeWords (EltTy.packing .bf16) := by decide
theorem words_rs : ∀ i : Fin 6, (rsR i).WholeWords (EltTy.packing .bf16) := by decide
theorem packed_ag : ∀ i : Fin 4, (agR i).PackedRows (EltTy.packing .bf16) := by decide
theorem packed_rs : ∀ i : Fin 6, (rsR i).PackedRows (EltTy.packing .bf16) := by decide

/-- The slots as the transfers name them: the unit axis dropped. -/
abbrev agS (i : Fin 4) : Memref sig .tc .vmem S64x2048 .bf16 :=
  (agM.slice (agR i) (fun _ => rfl)).squeeze S64x2048 squeezes_S1x64x2048_S64x2048
abbrev rsS (i : Fin 6) : Memref sig .tc .vmem S64x2048 .bf16 :=
  (rsM.slice (rsR i) (fun _ => rfl)).squeeze S64x2048 squeezes_S1x64x2048_S64x2048
abbrev wsS (i : Fin 2) : Memref sig .tc .vmem S2048x2048 .f32 :=
  (wsM.slice (wsR i) (fun _ => rfl)).squeeze S2048x2048 squeezes_S1x2048x2048_S2048x2048

theorem exact_ag (i : Fin 4) : (agS i).view.WordExact :=
  ((Memref.isWhole_whole cc0_scratch2).wordExact_slice rfl _ (words_ag i)).reshape _ _
theorem exact_rs (i : Fin 6) : (rsS i).view.WordExact :=
  ((Memref.isWhole_whole cc0_scratch3).wordExact_slice rfl _ (words_rs i)).reshape _ _

/-- The six transfers of a layer, in program order: the all-gather's first hop to the right and to the left, its second
    hop to the right; the reduce-scatter's first hop to the right, its second hop to the right, its hop to the left.
    What each sends and where it lands, -/
abbrev srcM : Fin 6 → Memref sig .tc .vmem S64x2048 .bf16
  | 0 => agS 0 | 1 => agS 0 | 2 => agS 1 | 3 => rsS 0 | 4 => rsS 2 | 5 => rsS 3
abbrev dstM : Fin 6 → Memref sig .tc .vmem S64x2048 .bf16
  | 0 => agS 1 | 1 => agS 2 | 2 => agS 3 | 3 => rsS 1 | 4 => rsS 4 | 5 => rsS 5
/-- and the semaphores its two ends complete on. -/
abbrev sS : Fin 6 → DmaSem sig := fun | 0 => (2 : Fin 16) | 1 => (3 : Fin 16) | 2 => (4 : Fin 16) | 3 => (8 : Fin 16) | 4 => (9 : Fin 16) | 5 => (10 : Fin 16)
abbrev rS : Fin 6 → DmaSem sig := fun | 0 => (5 : Fin 16) | 1 => (6 : Fin 16) | 2 => (7 : Fin 16) | 3 => (11 : Fin 16) | 4 => (12 : Fin 16) | 5 => (13 : Fin 16)
/-- The weight copies' semaphores. -/
abbrev wS : Fin 2 → DmaSem sig := fun | 0 => (14 : Fin 16) | 1 => (15 : Fin 16)

theorem exact_src : ∀ j : Fin 6, (srcM j).view.WordExact
  | 0 => exact_ag 0 | 1 => exact_ag 0 | 2 => exact_ag 1 | 3 => exact_rs 0 | 4 => exact_rs 2 | 5 => exact_rs 3
theorem exact_dst : ∀ j : Fin 6, (dstM j).view.WordExact
  | 0 => exact_ag 1 | 1 => exact_ag 2 | 2 => exact_ag 3 | 3 => exact_rs 1 | 4 => exact_rs 4 | 5 => exact_rs 5
theorem hbm_dst : ∀ j : Fin 6, (dstM j).view.ref.isScScratch = false
  | 0 => rfl | 1 => rfl | 2 => rfl | 3 => rfl | 4 => rfl | 5 => rfl

/-! ## The operations -/

abbrev PR (F : FTy → Type) [FloatOps F] : Type 1 := Prog (TpuEff nD τ sig (Elt F) Λ₀ .tc) PUnit

/-- The barrier semaphore. -/
abbrev barS : Sem sig := (SemArray.scalar (sig.barrier 0 rfl) : Sems sig S_).sem

abbrev xfer (j : Fin 6) (n : Dev nD) (k : PR F) : PR F :=
  .op (.enqueueDma (srcM j) (.remote (Dev.tc n) (dstM j) (.dma (sS j)) (hbm_dst j)) (.dma (rS j)) (exact_src j) (exact_dst j) ⟨⟨rfl, Or.inl rfl⟩, trivial⟩) fun _ => k
abbrev waitS (j : Fin 6) (k : PR F) : PR F := .op (.waitDma2 (sS j) (dstM j) (srcM j) (exact_dst j) (exact_src j)) fun _ => k
abbrev waitR (j : Fin 6) (k : PR F) : PR F := .op (.waitDma2 (rS j) (srcM j) (dstM j) (exact_src j) (exact_dst j)) fun _ => k

abbrev ldAg (i : Fin 4) (k : Vec F S1x64x2048 .bf16 → PR F) : PR F := .op (.load agM (agR i).toLoadRect (View.loadsAt_vmem h_S1x64x2048)) k
abbrev ldRs (i : Fin 6) (k : Vec F S1x64x2048 .bf16 → PR F) : PR F := .op (.load rsM (rsR i).toLoadRect (View.loadsAt_vmem h_S1x64x2048)) k
abbrev ldWs (i : Fin 2) (k : Vec F S1x2048x2048 .f32 → PR F) : PR F := .op (.load wsM (wsR i).toLoadRect (View.loadsAt_vmem h_S1x2048x2048)) k
abbrev stAg (i : Fin 4) (w : Vec F S1x64x2048 .bf16) (k : PR F) : PR F :=
  .op (.store agM (agR i) w Finset.univ (View.stores_vmem h_S1x64x2048 ((Memref.isWhole_whole cc0_scratch2).storeExact_slice rfl _ (packed_ag i)) (fun _ => rfl)) (.inl rfl)) fun _ => k
abbrev stRs (i : Fin 6) (w : Vec F S1x64x2048 .bf16) (k : PR F) : PR F :=
  .op (.store rsM (rsR i) w Finset.univ (View.stores_vmem h_S1x64x2048 ((Memref.isWhole_whole cc0_scratch3).storeExact_slice rfl _ (packed_rs i)) (fun _ => rfl)) (.inl rfl)) fun _ => k

/-- Rows `off 0, …, off 0 + 63` of a gathered array. -/
abbrev rowR (off : Fin 2 → Nat) (h : ∀ a, off a + S64x2048.size a ≤ S256x2048.size a) : Rect S256x2048 :=
  Rect.unit (s := S256x2048) off S64x2048.size h
abbrev ldXg (off : Fin 2 → Nat) (h : ∀ a, off a + S64x2048.size a ≤ S256x2048.size a) (k : Vec F S64x2048 .bf16 → PR F) : PR F :=
  .op (.load xgM (rowR off h).toLoadRect (View.loadsAt_vmem h_S64x2048)) k
abbrev stXg (off : Fin 2 → Nat) (h : ∀ a, off a + S64x2048.size a ≤ S256x2048.size a) (hp : (rowR off h).PackedRows (EltTy.packing .bf16))
    (w : Vec F S64x2048 .bf16) (k : PR F) : PR F :=
  .op (.store xgM (rowR off h) w Finset.univ (View.stores_vmem h_S64x2048 ((Memref.isWhole_whole cc0_scratch0).storeExact_slice rfl _ hp) (fun _ => rfl)) (.inl rfl)) fun _ => k
abbrev ldPt (off : Fin 2 → Nat) (h : ∀ a, off a + S64x2048.size a ≤ S256x2048.size a) (k : Vec F S64x2048 .f32 → PR F) : PR F :=
  .op (.load ptM (rowR off h).toLoadRect (View.loadsAt_vmem h_S64x2048)) k

abbrev allR : Rect S256x2048 := Rect.unit (s := S256x2048) ![0, 0] S256x2048.size inb_S256x2048_S256x2048_0_0
abbrev ldXgAll (k : Vec F S256x2048 .bf16 → PR F) : PR F := .op (.load xgM allR.toLoadRect (View.loadsAt_vmem h_S256x2048)) k
abbrev ldPtAll (k : Vec F S256x2048 .f32 → PR F) : PR F := .op (.load ptM allR.toLoadRect (View.loadsAt_vmem h_S256x2048)) k
abbrev stPtAll (w : Vec F S256x2048 .f32) (k : PR F) : PR F :=
  .op (.store ptM allR w Finset.univ (View.stores_vmem_bits_univ h_S256x2048 rfl) (.inl rfl)) fun _ => k

abbrev blkR : Rect S64x2048 := Rect.unit (s := S64x2048) ![0, 0] S64x2048.size inb_S64x2048_S64x2048_0_0
abbrev ldBlk (m : Memref sig .tc .vmem S64x2048 .f32) (k : Vec F S64x2048 .f32 → PR F) : PR F :=
  .op (.load m blkR.toLoadRect (View.loadsAt_vmem h_S64x2048)) k
abbrev stBlk (m : Memref sig .tc .vmem S64x2048 .f32) (w : Vec F S64x2048 .f32) (k : PR F) : PR F :=
  .op (.store m blkR w Finset.univ (View.stores_vmem_bits_univ h_S64x2048 rfl) (.inl rfl)) fun _ => k

/-- The four weight tiles: the two column blocks of the first weight, the two row blocks of the second. -/
abbrev wi0 (wi : Memref sig .tc .hbm S2048x4096 .f32) : Memref sig .tc .hbm S2048x2048 .f32 :=
  wi.slice (Rect.unit (s := S2048x4096) ![0, 0] S2048x2048.size inb_S2048x4096_S2048x2048_0_0) (fun _ => rfl)
abbrev wi1 (wi : Memref sig .tc .hbm S2048x4096 .f32) : Memref sig .tc .hbm S2048x2048 .f32 :=
  wi.slice (Rect.unit (s := S2048x4096) ![0, 2048] S2048x2048.size inb_S2048x4096_S2048x2048_0_2048) (fun _ => rfl)
abbrev wo0 (wo : Memref sig .tc .hbm S4096x2048 .f32) : Memref sig .tc .hbm S2048x2048 .f32 :=
  wo.slice (Rect.unit (s := S4096x2048) ![0, 0] S2048x2048.size inb_S4096x2048_S2048x2048_0_0) (fun _ => rfl)
abbrev wo1 (wo : Memref sig .tc .hbm S4096x2048 .f32) : Memref sig .tc .hbm S2048x2048 .f32 :=
  wo.slice (Rect.unit (s := S4096x2048) ![2048, 0] S2048x2048.size inb_S4096x2048_S2048x2048_2048_0) (fun _ => rfl)

abbrev cpy (src : Memref sig .tc .hbm S2048x2048 .f32) (i : Fin 2) (k : PR F) : PR F :=
  .op (.enqueueDma src (.here (wsS i)) (.dma (wS i)) (View.wordExact_bits rfl) ((View.wordExact_bits rfl).reshape _ _) ⟨Or.inl rfl, trivial⟩) fun _ => k
abbrev waitW (src : Memref sig .tc .hbm S2048x2048 .f32) (i : Fin 2) (k : PR F) : PR F :=
  .op (.waitDma2 (wS i) src (wsS i) (View.wordExact_bits rfl) ((View.wordExact_bits rfl).reshape _ _)) fun _ => k

/-! ## The segments -/

/-- The entry handshake, and the device's block rounded into slot 0. -/
abbrev segStart (a0 : Memref sig .tc .vmem S64x2048 .f32) (n1 n2 : Dev nD) (k : PR F) : PR F :=
  (semSignalWord n1 barS 1#32 : Prog (TpuEff nD τ sig (Elt F) Λ₀ .tc) PUnit).bind fun _ =>
  (semSignalWord n2 barS 1#32 : Prog (TpuEff nD τ sig (Elt F) Λ₀ .tc) PUnit).bind fun _ =>
  (semWaitWord barS 2#32 : Prog (TpuEff nD τ sig (Elt F) Λ₀ .tc) PUnit).bind fun _ =>
  ldBlk a0 fun x => ldAg 0 fun _ => stAg 0 (k0_pay2 x) k

/-- The first two weight copies of a layer. -/
abbrev segPre (wi : Memref sig .tc .hbm S2048x4096 .f32) (wo : Memref sig .tc .hbm S4096x2048 .f32) (k : PR F) : PR F :=
  cpy (wi0 wi) 0 <| cpy (wo0 wo) 1 k

/-- The all-gather. -/
abbrev segA (d0 n3 n4 n5 : Dev nD) (k : Vec F S256x2048 .bf16 → PR F) : PR F :=
  xfer 0 n3 <| xfer 1 n4 <| ldAg 0 fun v => ldXg (k0_off1 d0) (k0_off1_inb d0) fun _ =>
  stXg (k0_off1 d0) (k0_off1_inb d0) (k0_off1_packedbf16 d0) (k0_pay3 v) <|
  waitS 0 <| waitR 0 <| xfer 2 n5 <| ldAg 1 fun v => ldXg (k0_off2 d0) (k0_off2_inb d0) fun _ =>
  stXg (k0_off2 d0) (k0_off2_inb d0) (k0_off2_packedbf16 d0) (k0_pay4 v) <|
  waitS 1 <| waitR 1 <| ldAg 2 fun v => ldXg (k0_off3 d0 1#32) (k0_off3_inb d0 0) fun _ =>
  stXg (k0_off3 d0 1#32) (k0_off3_inb d0 0) (k0_off3_packedbf16 d0 0) (k0_pay5 v) <|
  waitS 2 <| waitR 2 <| ldAg 3 fun v => ldXg (k0_off3 d0 2#32) (k0_off3_inb d0 1) fun _ =>
  stXg (k0_off3 d0 2#32) (k0_off3_inb d0 1) (k0_off3_packedbf16 d0 1) (k0_pay6 v) <|
  ldXgAll k

/-- The two tile products. -/
abbrev segP (wi : Memref sig .tc .hbm S2048x4096 .f32) (wo : Memref sig .tc .hbm S4096x2048 .f32) (xg : Vec F S256x2048 .bf16) (k : PR F) : PR F :=
  waitW (wi0 wi) 0 <| ldWs 0 fun w => cpy (wi1 wi) 0 <| waitW (wo0 wo) 1 <| ldWs 1 fun w' => ldPtAll fun _ =>
  stPtAll (k0_pay8 (k0_pay7 xg w) w') <| cpy (wo1 wo) 1 <| waitW (wi1 wi) 0 <| ldWs 0 fun w => waitW (wo1 wo) 1 <|
  ldPtAll fun p => ldWs 1 fun w' => ldPtAll fun _ => stPtAll (k0_pay9 xg w p w') k

/-- The reduce-scatter. -/
abbrev segB (d0 n6 n7 n8 : Dev nD) (k : Vec F S64x2048 .f32 → Vec F S1x64x2048 .bf16 → Vec F S1x64x2048 .bf16 → PR F) : PR F :=
  ldPt (k0_off3 d0 2#32) (k0_off3_inb d0 1) fun p => ldRs 0 fun _ => stRs 0 (k0_pay10 p) <| xfer 3 n6 <|
  ldPt (k0_off2 d0) (k0_off2_inb d0) fun p => ldRs 3 fun _ => stRs 3 (k0_pay11 p) <| waitS 3 <| waitR 3 <|
  ldRs 1 fun r => ldPt (k0_off3 d0 1#32) (k0_off3_inb d0 0) fun p => ldRs 2 fun _ => stRs 2 (k0_pay13 (k0_pay12 r p)) <|
  xfer 4 n7 <| xfer 5 n8 <| waitS 4 <| waitR 4 <| waitS 5 <| waitR 5 <|
  ldPt (k0_off1 d0) (k0_off1_inb d0) fun p => ldRs 4 fun r => ldRs 5 fun r' => k p r r'

/-- A layer's sum rounded into slot 0, for the next layer. -/
abbrev segNext (k : PR F) (p : Vec F S64x2048 .f32) (r r' : Vec F S1x64x2048 .bf16) : PR F :=
  ldAg 0 fun _ => stAg 0 (k0_pay14 p r r') k

/-- The last layer's sum, the result block. -/
abbrev segOut (o : Memref sig .tc .vmem S64x2048 .f32) (p : Vec F S64x2048 .f32) (r r' : Vec F S1x64x2048 .bf16) : PR F :=
  ldBlk o fun _ => stBlk o (k0_pay1 p r r') (.ret ⟨⟩)

/-- The body on a device `d0`, over the neighbours it names. -/
abbrev segs (a0 o : Memref sig .tc .vmem S64x2048 .f32) (d0 : Dev nD) (n : Fin 20 → Dev nD) : PR F :=
  segStart a0 (n 0) (n 1) <|
  segPre (Memref.whole main_arg1) (Memref.whole main_arg4) <|
  segA d0 (n 2) (n 3) (n 4) fun xg => segP (Memref.whole main_arg1) (Memref.whole main_arg4) xg <|
  segPre (Memref.whole main_arg2) (Memref.whole main_arg5) <|
  segB d0 (n 5) (n 6) (n 7) <| segNext <|
  segA d0 (n 8) (n 9) (n 10) fun xg => segP (Memref.whole main_arg2) (Memref.whole main_arg5) xg <|
  segPre (Memref.whole main_arg3) (Memref.whole main_arg6) <|
  segB d0 (n 11) (n 12) (n 13) <| segNext <|
  segA d0 (n 14) (n 15) (n 16) fun xg => segP (Memref.whole main_arg3) (Memref.whole main_arg6) xg <|
  segB d0 (n 17) (n 18) (n 19) <| segOut o

/-- The neighbours as the body computes them. -/
abbrev devs (d0 : Dev nD) : Fin 20 → Dev nD :=
  ![⟨k0_dev1 d0, k0_dev1_lt d0⟩, ⟨k0_dev2 d0, k0_dev2_lt d0⟩, ⟨k0_dev3 d0, k0_dev3_lt d0⟩, ⟨k0_dev4 d0, k0_dev4_lt d0⟩,
    ⟨k0_dev5 d0, k0_dev5_lt d0⟩, ⟨k0_dev6 d0, k0_dev6_lt d0⟩, ⟨k0_dev7 d0, k0_dev7_lt d0⟩, ⟨k0_dev8 d0, k0_dev8_lt d0⟩,
    ⟨k0_dev9 d0, k0_dev9_lt d0⟩, ⟨k0_dev10 d0, k0_dev10_lt d0⟩, ⟨k0_dev11 d0, k0_dev11_lt d0⟩, ⟨k0_dev12 d0, k0_dev12_lt d0⟩,
    ⟨k0_dev13 d0, k0_dev13_lt d0⟩, ⟨k0_dev14 d0, k0_dev14_lt d0⟩, ⟨k0_dev15 d0, k0_dev15_lt d0⟩, ⟨k0_dev16 d0, k0_dev16_lt d0⟩,
    ⟨k0_dev17 d0, k0_dev17_lt d0⟩, ⟨k0_dev18 d0, k0_dev18_lt d0⟩, ⟨k0_dev19 d0, k0_dev19_lt d0⟩, ⟨k0_dev20 d0, k0_dev20_lt d0⟩]

set_option maxRecDepth 65536 in
set_option maxHeartbeats 2000000 in
/-- The body is the chain of its segments. -/
theorem body_eq (a0 o : Memref sig .tc .vmem S64x2048 .f32) (h0 : a0.IsWhole) (ho : o.IsWhole) :
    (cc0_body a0 h0 (Memref.whole main_arg1) (Memref.isWhole_whole _) (Memref.whole main_arg4) (Memref.isWhole_whole _)
      (Memref.whole main_arg2) (Memref.isWhole_whole _) (Memref.whole main_arg5) (Memref.isWhole_whole _) (Memref.whole main_arg3) (Memref.isWhole_whole _)
      (Memref.whole main_arg6) (Memref.isWhole_whole _) o ho xgM (Memref.isWhole_whole _) ptM (Memref.isWhole_whole _) agM (Memref.isWhole_whole _)
      rsM (Memref.isWhole_whole _) wsM (Memref.isWhole_whole _) cc0_scratch5 cc0_scratch6 cc0_scratch7 cc0_scratch8 cc0_scratch9 : PR F)
      = .op .deviceId fun d0 => segs a0 o d0 (devs d0) := by
  rfl

end Cert.KernelIdeal.Run

end
-- ==== Proof.Proto.lean ====
/-
# The protocol of the ring

Four devices on a ring, three layers. In a layer a device sends six blocks: of the all-gather, its own block to the right
(transfer 0) and to the left (1), then the block it received from the left to the right (2); of the reduce-scatter, one
chunk to the right (3), a chunk summed with what arrived to the right (4), one chunk to the left (5). Transfer `j` of
layer `l` is round `l` of its two cells, the sender's send cell and the receiver's receive cell.

A slot is written by a neighbour only after its owner granted it: a grant is the slot, at any contents, together with the
fact that the slot's receive cell has reached the round. The grants of the slots of transfers 0, 1, 2, 3 for layer 0
ride on the entry handshake's signals; for a later layer they ride on transfers 4 and 5 of the layer before; the grants
of the slots of transfers 4 and 5 ride on transfers 1 and 0 of the same layer. So every grant travels on a message the
kernel sends anyway, and no slot is written while its owner can still read it.
-/
module

public import proofs.«01_k».proof.Proof.Segs
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.VecWindow
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × Counters)).trans embR
abbrev EC : UEmb Counters (MT nD τ sig ℕ (Elt F) ℕ UU ℕ) := countersEmb

instance ER_landsIn : (ER : Emb UB 𝕄).LandsIn (upEmb : UEmb _ 𝕄) := by unfold ER embR; infer_instance

/-! ## The ring -/

def nxt (c : Dev nD) : Dev nD := ⟨(c.val + 1) % 4, Nat.mod_lt _ (by decide)⟩
def prv (c : Dev nD) : Dev nD := ⟨(c.val + 3) % 4, Nat.mod_lt _ (by decide)⟩
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = opp c := by revert c; decide
theorem nxt_ne_prv (c : Dev nD) : nxt c ≠ prv c := by revert c; decide

def ring : Dev nD ≃ Dev nD := ⟨nxt, prv, prv_nxt, nxt_prv⟩

/-- Where transfer `j` of device `c` goes, and where the one landing at `c` comes from. -/
def tgt (j : Fin 6) (c : Dev nD) : Dev nD := if j = 1 ∨ j = 5 then prv c else nxt c
def src (j : Fin 6) (c : Dev nD) : Dev nD := if j = 1 ∨ j = 5 then nxt c else prv c

theorem src_tgt (j : Fin 6) (c : Dev nD) : src j (tgt j c) = c := by revert j c; decide
theorem tgt_src (j : Fin 6) (c : Dev nD) : tgt j (src j c) = c := by revert j c; decide

set_option maxRecDepth 4096 in
/-- The neighbours the body computes: the first signal goes to the left, the second to the right, and each transfer of
    each layer where `tgt` says. -/
theorem devs_eq (c : Dev nD) : devs c = ![prv c, nxt c, tgt 0 c, tgt 1 c, tgt 2 c, tgt 3 c, tgt 4 c, tgt 5 c,
    tgt 0 c, tgt 1 c, tgt 2 c, tgt 3 c, tgt 4 c, tgt 5 c, tgt 0 c, tgt 1 c, tgt 2 c, tgt 3 c, tgt 4 c, tgt 5 c] := by
  revert c; decide +kernel

/-! ## The cells -/

/-- The cells of the schedule on one device: the barrier (`none`) and each transfer's send (`false`) and receive (`true`). -/
abbrev CK : Type := Option (Bool × Fin 6)

abbrev csem : CK → SemLoc sig
  | none => .reg barS
  | some (false, j) => .dma (sS j)
  | some (true, j) => .dma (rS j)

abbrev barCell (c : Dev nD) : GSem nD τ sig := ((c : Thread nD τ), .reg barS)
abbrev sendCell (c : Dev nD) (j : Fin 6) : GSem nD τ sig := ((c : Thread nD τ), .dma (sS j))
abbrev recvCell (c : Dev nD) (j : Fin 6) : GSem nD τ sig := ((c : Thread nD τ), .dma (rS j))
abbrev kcell (ck : Dev nD × CK) : GSem nD τ sig := ((ck.1 : Thread nD τ), csem ck.2)

/-- Which cell of the schedule a semaphore is. -/
def kind : SemLoc sig → Option CK
  | .reg s => if s = barS then some none else none
  | .dma q => match (q : Fin 16).val with
    | 2 => some (some (false, 0)) | 3 => some (some (false, 1)) | 4 => some (some (false, 2))
    | 8 => some (some (false, 3)) | 9 => some (some (false, 4)) | 10 => some (some (false, 5))
    | 5 => some (some (true, 0)) | 6 => some (some (true, 1)) | 7 => some (some (true, 2))
    | 11 => some (some (true, 3)) | 12 => some (some (true, 4)) | 13 => some (some (true, 5))
    | _ => none

theorem kind_csem : ∀ k : CK, kind (csem k) = some k := by decide
theorem kind_send (j : Fin 6) : kind (.dma (sS j)) = some (some (false, j)) := kind_csem (some (false, j))
theorem kind_recv (j : Fin 6) : kind (.dma (rS j)) = some (some (true, j)) := kind_csem (some (true, j))
theorem kind_bar : kind (.reg barS) = some none := kind_csem none
theorem kind_w : ∀ i : Fin 2, kind (.dma (wS i)) = none := by decide
theorem csem_inj : Function.Injective csem := fun a b h => Option.some.inj (by rw [← kind_csem a, h, kind_csem])

theorem kcell_inj : Function.Injective kcell := fun a b h => by
  have h1 : a.1 = b.1 := by have := congrArg (fun g : GSem nD τ sig => g.1.1) h; exact this
  have h2 : csem a.2 = csem b.2 := congrArg (fun g : GSem nD τ sig => g.2) h
  exact Prod.ext h1 (csem_inj h2)

/-- A block's credit. -/
abbrev N : ℕ := (agS 0).view.dmaCredit
theorem N_pos : 0 < N := View.dmaCredit_pos _ (by decide)
theorem N_dst : ∀ j : Fin 6, (dstM j).view.dmaCredit = N
  | 0 => rfl | 1 => rfl | 2 => rfl | 3 => rfl | 4 => rfl | 5 => rfl
theorem N_src : ∀ j : Fin 6, (srcM j).view.dmaCredit = N
  | 0 => rfl | 1 => rfl | 2 => rfl | 3 => rfl | 4 => rfl | 5 => rfl

/-! ## Slots held at a value -/

/-- Device `c` holds, at share `q`, the block `m` names, and it reads as `X`. -/
def held {sp : Space} {s : Shape} {e : EltTy} (c : Dev nD) (m : Memref sig .tc sp s e) (q : PosShare TreeShare) (X : Vec F s e) : sProp 𝕄 :=
  m.view.loc (c : Thread nD τ) ↦[m.view.set]{q} (m.view.rep X : Buf (Elt F) (m.view.loc (c : Thread nD τ)))

/-- The same at any value, whole. -/
def anyAt {sp : Space} {s : Shape} {e : EltTy} (c : Dev nD) (m : Memref sig .tc sp s e) : sProp 𝕄 :=
  iprop(∃ X : Vec F s e, held c m fullShare X)

instance held_storable {sp : Space} {s : Shape} {e : EltTy} (c : Dev nD) (m : Memref sig .tc sp s e) (q : PosShare TreeShare) (X : Vec F s e) :
    BI.Storable (upEmb : UEmb _ 𝕄) (held c m q X) := by unfold held; infer_instance
instance anyAt_storable {sp : Space} {s : Shape} {e : EltTy} (c : Dev nD) (m : Memref sig .tc sp s e) :
    BI.Storable (upEmb : UEmb _ 𝕄) (anyAt (F := F) c m) := by unfold anyAt; infer_instance

/-! ## The schedule -/

variable (V : Fin 6 → ℕ → Dev nD → Vec F S64x2048 .bf16)

/-- The share of its source a transfer takes: device `c` reads its own block and the one from the left while they fly. -/
def shr : Fin 6 → PosShare TreeShare := fun j =>
  if j = 0 ∨ j = 2 then fullShare.left else if j = 1 then fullShare.right.left else fullShare

/-- Device `p` grants the slot transfer `j` lands in, for round `r`. -/
def grant (j : Fin 6) (r : ℕ) (p : Dev nD) : sProp 𝕄 := iprop(anyAt (F := F) p (dstM j) ∗ reached ER (recvCell p j) r)

/-- What a transfer of device `p` carries beside the block. -/
def extra (j : Fin 6) (r : ℕ) (p : Dev nD) : sProp 𝕄 :=
  match j with
  | 0 => grant 5 r p
  | 1 => grant 4 r p
  | 4 => if r < 2 then grant 1 (r + 1) p else iprop(emp)
  | 5 => if r < 2 then iprop(grant 0 (r + 1) p ∗ grant 2 (r + 1) p ∗ grant 3 (r + 1) p) else iprop(emp)
  | _ => iprop(emp)

/-- What the entry signals hand device `c`: from the right (`true`) and from the left (`false`). -/
def barPay (c : Dev nD) (d : Bool) : sProp 𝕄 :=
  if d then iprop(grant 0 0 (nxt c) ∗ grant 2 0 (nxt c) ∗ grant 3 0 (nxt c)) else grant 1 0 (prv c)

def sendPay (j : Fin 6) (r : ℕ) (c : Dev nD) : sProp 𝕄 := held c (srcM j) (shr j) (V j r c)
def recvPay (j : Fin 6) (r : ℕ) (c : Dev nD) : sProp 𝕄 :=
  iprop(held c (dstM j) fullShare (V j r (src j c)) ∗ extra j r (src j c))

instance grant_storable (j : Fin 6) (r : ℕ) (p : Dev nD) : BI.Storable (upEmb : UEmb _ 𝕄) (grant (F := F) j r p) := by
  unfold grant; infer_instance
instance extra_storable (j : Fin 6) (r : ℕ) (p : Dev nD) : BI.Storable (upEmb : UEmb _ 𝕄) (extra (F := F) j r p) := by
  unfold extra; (repeat' split) <;> infer_instance
instance barPay_storable (c : Dev nD) (d : Bool) : BI.Storable (upEmb : UEmb _ 𝕄) (barPay (F := F) c d) := by
  unfold barPay; split <;> infer_instance

/-- The payload of a cell of the schedule, by its kind. -/
def payOf (c : Dev nD) (r : ℕ) (d : Bool) : Option CK → sProp 𝕄
  | some none => barPay c d
  | some (some (false, j)) => sendPay V j r c
  | some (some (true, j)) => recvPay V j r c
  | none => iprop(emp)

instance payOf_storable (c : Dev nD) (r : ℕ) (d : Bool) (k : Option CK) : BI.Storable (upEmb : UEmb _ 𝕄) (payOf V c r d k) := by
  unfold payOf sendPay recvPay; split <;> infer_instance

def dutiesOf (r : ℕ) : Option CK → Finset Bool
  | some none => if r = 0 then Finset.univ else ∅
  | some (some _) => if r < 3 then {false} else ∅
  | none => ∅

def amtOf : Option CK → ℕ
  | some none => 1
  | _ => N

/-- Three rounds of one duty on a transfer's two cells, one round of two duties on the barrier. -/
def Rd : Rounds.Schedule (GSem nD τ sig) Bool 𝕄 where
  duties g r := if g.1.2 = .tc then dutiesOf r (kind g.2) else ∅
  unitless _ := False
  amount g _ _ := amtOf (kind g.2)
  payload g r d := payOf V g.1.1 r d (kind g.2)
  amount_pos g _ _ _ := by
    show 0 < amtOf (kind g.2)
    unfold amtOf; split
    · exact Nat.one_pos
    · exact N_pos

instance Rd_payload_storable (g : GSem nD τ sig) (r : ℕ) (d : Bool) :
    BI.Storable (upEmb : UEmb _ 𝕄) ((Rd V).payload g r d) := payOf_storable V _ _ _ _

section Sched
variable (c : Dev nD) (j : Fin 6)

theorem duties_tc (sm : SemLoc sig) (r : ℕ) : (Rd V).duties ((c : Thread nD τ), sm) r = dutiesOf r (kind sm) :=
  if_pos (e := (∅ : Finset Bool)) (show ((c : Thread nD τ), sm).1.2 = .tc from rfl)
theorem duties_bar : (Rd V).duties (barCell c) 0 = Finset.univ := by
  rw [duties_tc, kind_bar]; rfl
theorem duties_send {r : ℕ} (h : r < 3) : (Rd V).duties (sendCell c j) r = {false} := by
  rw [duties_tc, kind_send]; exact if_pos h
theorem duties_recv {r : ℕ} (h : r < 3) : (Rd V).duties (recvCell c j) r = {false} := by
  rw [duties_tc, kind_recv]; exact if_pos h
theorem duties_later (g : GSem nD τ sig) : ∀ r, 3 ≤ r → (Rd V).duties g r = ∅ := fun r hr => by
  show (if g.1.2 = .tc then dutiesOf r (kind g.2) else ∅) = _
  split
  · unfold dutiesOf; split
    · exact if_neg (by omega)
    · exact if_neg (by omega)
    · rfl
  · rfl
theorem duties_bar_later : ∀ r, 1 ≤ r → (Rd V).duties (barCell c) r = ∅ := fun r hr => by
  rw [duties_tc, kind_bar]; exact if_neg (by omega)

theorem amount_bar (r : ℕ) (d : Bool) : (Rd V).amount (barCell c) r d = 1 := by
  show amtOf (kind (.reg barS)) = _; rw [kind_bar]; rfl
theorem amount_send (r : ℕ) (d : Bool) : (Rd V).amount (sendCell c j) r d = N := by
  show amtOf (kind (.dma (sS j))) = _; rw [kind_send]; rfl
theorem amount_recv (r : ℕ) (d : Bool) : (Rd V).amount (recvCell c j) r d = N := by
  show amtOf (kind (.dma (rS j))) = _; rw [kind_recv]; rfl

theorem expect_bar : (Rd V).expect (barCell c) 0 = 2 := by
  unfold Schedule.expect Schedule.amountOf
  rw [duties_bar, Finset.sum_congr rfl fun d _ => amount_bar V c 0 d, Finset.sum_const, Finset.card_univ, Fintype.card_bool, smul_eq_mul]
theorem expect_send {r : ℕ} (h : r < 3) : (Rd V).expect (sendCell c j) r = N := by
  unfold Schedule.expect Schedule.amountOf; rw [duties_send V c j h, Finset.sum_singleton, amount_send]
theorem expect_recv {r : ℕ} (h : r < 3) : (Rd V).expect (recvCell c j) r = N := by
  unfold Schedule.expect Schedule.amountOf; rw [duties_recv V c j h, Finset.sum_singleton, amount_recv]

theorem payload_bar (r : ℕ) (d : Bool) : (Rd V).payload (barCell c) r d = barPay c d := by
  show payOf V c r d (kind (.reg barS)) = _; rw [kind_bar]; rfl
theorem payload_send (r : ℕ) (d : Bool) : (Rd V).payload (sendCell c j) r d = sendPay V j r c := by
  show payOf V c r d (kind (.dma (sS j))) = _; rw [kind_send]; rfl
theorem payload_recv (r : ℕ) (d : Bool) : (Rd V).payload (recvCell c j) r d = recvPay V j r c := by
  show payOf V c r d (kind (.dma (rS j))) = _; rw [kind_recv]; rfl

theorem rest_bar : bigSep ((Rd V).duties (barCell c) 0 \ ∅) (fun d => (Rd V).payload (barCell c) 0 d) = iprop(barPay (F := F) c false ∗ barPay c true) := by
  rw [Finset.sdiff_empty, duties_bar, bigSep_univ_eq_bigSepL [false, true] (by decide) (by decide), bigSepL_cons_cons, bigSepL_singleton,
    payload_bar, payload_bar]
  rfl
theorem rest_send {r : ℕ} (h : r < 3) :
    bigSep ((Rd V).duties (sendCell c j) r \ ∅) (fun d => (Rd V).payload (sendCell c j) r d) = sendPay V j r c := by
  rw [Finset.sdiff_empty, duties_send V c j h, bigSep_singleton, payload_send]
theorem rest_recv {r : ℕ} (h : r < 3) :
    bigSep ((Rd V).duties (recvCell c j) r \ ∅) (fun d => (Rd V).payload (recvCell c j) r d) = recvPay V j r c := by
  rw [Finset.sdiff_empty, duties_recv V c j h, bigSep_singleton, payload_recv]

end Sched

/-! ## What a device owes; the levels -/

/-- The credit device `c`'s `k`-th transfer (of the eighteen) owes. -/
def due (c : Dev nD) (k : ℕ) : CellTallies nD τ sig ℕ :=
  tallyAt (recvCell (tgt ⟨k % 6, Nat.mod_lt _ (by decide)⟩ c) ⟨k % 6, Nat.mod_lt _ (by decide)⟩) (k / 6) N

/-- What is owed from the `n`-th transfer on. -/
def rem (c : Dev nD) (n : ℕ) : CellTallies nD τ sig ℕ := ∑ k ∈ (Finset.range 18).filter (n ≤ ·), due c k

theorem rem_end (c : Dev nD) : rem c 18 = 0 := by
  unfold rem
  rw [show (Finset.range 18).filter (18 ≤ ·) = ∅ by decide, Finset.sum_empty]

theorem rem_step (c : Dev nD) {n : ℕ} (h : n < 18) : rem c n = rem c (n + 1) + due c n := by
  unfold rem
  rw [show (Finset.range 18).filter (n ≤ ·) = insert n ((Finset.range 18).filter (n + 1 ≤ ·)) by
    ext k; simp only [Finset.mem_filter, Finset.mem_range, Finset.mem_insert]; omega]
  rw [Finset.sum_insert (by simp only [Finset.mem_filter]; omega), add_comm]

theorem rem_xfer (c : Dev nD) (l : ℕ) (hl : l < 3) (j : Fin 6) :
    rem c (6 * l + j.val) = rem c (6 * l + j.val + 1) + tallyAt (recvCell (tgt j c) j) l N := by
  have hj := j.isLt
  rw [rem_step c (by omega)]
  unfold due
  have e1 : (6 * l + j.val) % 6 = j.val := by omega
  have e2 : (6 * l + j.val) / 6 = l := by omega
  have e3 : (⟨(6 * l + j.val) % 6, Nat.mod_lt _ (by decide)⟩ : Fin 6) = j := Fin.ext e1
  rw [e3, e2]

theorem rem_pos {c : Dev nD} {n : ℕ} {g : GSem nD τ sig} {u : ℕ} (h : 0 < rem c n g u) :
    ∃ k, n ≤ k ∧ k < 18 ∧ ∃ d : Dev nD, ∃ j : Fin 6, j.val = k % 6 ∧ g = recvCell d j ∧ u = k / 6 := by
  unfold rem at h
  rw [Finset.sum_apply, Finsupp.finset_sum_apply] at h
  obtain ⟨k, hk, hp⟩ := Finset.exists_ne_zero_of_sum_ne_zero (Nat.pos_iff_ne_zero.mp h)
  rw [Finset.mem_filter, Finset.mem_range] at hk
  unfold due at hp
  rw [tallyAt_apply] at hp
  by_cases hc : g = recvCell (tgt ⟨k % 6, Nat.mod_lt _ (by decide)⟩ c) ⟨k % 6, Nat.mod_lt _ (by decide)⟩ ∧ u = k / 6
  · exact ⟨k, hk.2, hk.1, _, ⟨k % 6, Nat.mod_lt _ (by decide)⟩, rfl, hc.1, hc.2⟩
  · rw [if_neg hc] at hp; exact absurd rfl hp

/-- What device `c` owes at launch: its eighteen transfers and a unit at each neighbour's barrier. -/
def O₀ (c : Dev nD) : CellTallies nD τ sig ℕ := rem c 0 + tallyAt (barCell (nxt c)) 0 1 + tallyAt (barCell (prv c)) 0 1

def L (g : GSem nD τ sig) : Finset ℕ := if g.1.2 = .tc then Finset.range 3 else ∅
def lvOf (u : ℕ) : Option CK → ℕ
  | some none => 1
  | some (some (true, j)) => 6 * u + j.val + 2
  | _ => 0
/-- Barrier cells at 1, the receive cell of transfer `j` in round `u` at its place in program order, the rest at 0. -/
def lv (g : GSem nD τ sig) (u : ℕ) : ℕ := lvOf u (kind g.2)

theorem L_of_ne (g : GSem nD τ sig) (h : g.1.2 ≠ .tc) : L g = ∅ := if_neg h
theorem L_tc (c : Dev nD) (sm : SemLoc sig) : L ((c : Thread nD τ), sm) = Finset.range 3 := if_pos rfl
theorem lv_recv (c : Dev nD) (j : Fin 6) (u : ℕ) : lv (recvCell c j) u = 6 * u + j.val + 2 := by
  unfold lv; rw [kind_recv]; rfl
theorem lv_send (c : Dev nD) (j : Fin 6) (u : ℕ) : lv (sendCell c j) u = 0 := by unfold lv; rw [kind_send]; rfl
theorem lv_bar (c : Dev nD) (u : ℕ) : lv (barCell c) u = 1 := by unfold lv; rw [kind_bar]; rfl
theorem lv_w (c : Dev nD) (i : Fin 2) (u : ℕ) : lv ((c : Thread nD τ), .dma (wS i)) u = 0 := by unfold lv; rw [kind_w]; rfl

/-- A wait at a level below every transfer still owed. -/
theorem mayWait_rem (c : Dev nD) (sm : SemLoc sig) {u n : ℕ} (hu : u < 3) (h : lv ((c : Thread nD τ), sm) u < n + 2) :
    (levAts L lv : sProp 𝕄) ⊢ MayWait (c : Thread nD τ) sm u (rem c n) :=
  MayOwe.of_cut (L := L) (lev := lv) (n + 1)
    (fun p hp => by rw [Finset.mem_singleton.mp hp, L_tc]; exact Finset.mem_range.mpr hu)
    (fun g v hg => by
      obtain ⟨k, hk, hk', d, j, hj, rfl, rfl⟩ := rem_pos hg
      rw [L_tc]; exact Finset.mem_range.mpr (by omega))
    (fun p hp => by rw [Finset.mem_singleton.mp hp]; exact Nat.lt_succ_iff.mp h)
    (fun g v hg => by
      obtain ⟨k, hk, hk', d, j, hj, rfl, rfl⟩ := rem_pos hg
      rw [lv_recv, hj]; omega)

theorem O₀_apply (c : Dev nD) (g : GSem nD τ sig) (u : ℕ) : O₀ c g u = rem c 0 g u
    + (if g = barCell (nxt c) ∧ u = 0 then 1 else 0) + (if g = barCell (prv c) ∧ u = 0 then 1 else 0) := by
  unfold O₀
  rw [Pi.add_apply, Finsupp.add_apply, Pi.add_apply, Finsupp.add_apply, tallyAt_apply, tallyAt_apply]

theorem O₀_pos {c : Dev nD} {g : GSem nD τ sig} {u : ℕ} (h : 0 < O₀ c g u) : u < 3 ∧ g.1.2 = .tc ∧ 0 < lv g u := by
  rw [O₀_apply] at h
  by_cases h1 : g = barCell (nxt c) ∧ u = 0
  · obtain ⟨rfl, rfl⟩ := h1
    exact ⟨Nat.succ_pos 2, rfl, by rw [lv_bar]; exact Nat.one_pos⟩
  by_cases h2 : g = barCell (prv c) ∧ u = 0
  · obtain ⟨rfl, rfl⟩ := h2
    exact ⟨Nat.succ_pos 2, rfl, by rw [lv_bar]; exact Nat.one_pos⟩
  rw [if_neg h1, if_neg h2, Nat.add_zero] at h
  obtain ⟨k, hk, hk', d, j, hj, rfl, rfl⟩ := rem_pos h
  exact ⟨by omega, rfl, by rw [lv_recv]; omega⟩

/-- The staging waits, at level 0, with everything still owed or nothing. -/
theorem mayWait_stage (c : Dev nD) (q : DmaSem sig) (hq : kind (.dma q) = none) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0
      (fun p hp => by rw [Finset.mem_singleton.mp hp, L_tc]; exact Finset.mem_range.mpr (show 0 < 3 from by decide))
      (fun g u hg => by
        obtain ⟨h1, h2, h3⟩ := O₀_pos hg
        unfold L; rw [if_pos h2]; exact Finset.mem_range.mpr h1)
      (fun p hp => by rw [Finset.mem_singleton.mp hp]; show lvOf 0 (kind (.dma q)) ≤ 0; rw [hq]; exact le_rfl)
      (fun g u hg => (O₀_pos hg).2.2)
  · rw [MayWait_zero]; iintro -; iempintro

end Cert.KernelIdeal.Run

end
-- ==== Proof.Rules.lean ====
/-
# One rule per operation of the body

A transfer, its two waits, a weight copy and its wait, a load or store of a slot, of the rows of a gathered array, of the
whole of one: each as a step `P ⊢ (R -∗ wp k) -∗ wp (op k)` at a symbolic device.
-/
module

public import proofs.«01_k».proof.Proof.Proto

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- The body's weakest precondition on device `c`. -/
abbrev wpc (c : Dev nD) (k : PR F) (Q : PUnit → sProp 𝕄) : sProp 𝕄 :=
  wp frame (wpE (defs₀ (F := F)) 𝒱₀ (c : Thread nD τ) none) Set.univ k Q

/-- A slot's value with its unit axis, and without. -/
abbrev up (X : Vec F S64x2048 .bf16) : Vec F S1x64x2048 .bf16 := shapeCast S1x64x2048 X shapeCasts_S64x2048_S1x64x2048
abbrev dn (X : Vec F S1x64x2048 .bf16) : Vec F S64x2048 .bf16 := shapeCast S64x2048 X shapeCasts_S1x64x2048_S64x2048
theorem casts2 : S2048x2048.ShapeCasts S1x2048x2048 := by decide
abbrev up2 (X : Vec F S2048x2048 .f32) : Vec F S1x2048x2048 .f32 := shapeCast S1x2048x2048 X casts2

/-! ## Slots -/

section Slots
variable {s S' : Shape} {e : EltTy} (c : Dev nD) (M : Memref sig .tc .vmem s e) (r : Rect s) (hr : ∀ a, r.stride a = 1) (hq : r.shape.Squeezes S')

theorem set_slot : ((M.slice r hr).squeeze S' hq).view.set = (M.view.slice r).set := View.set_reshape _ _

theorem held_load (hc : S'.ShapeCasts r.shape) (hl : M.view.LoadsAt r.toLoadRect) (q : PosShare TreeShare) (X : Vec F S' e) (k : Vec F r.shape e → PR F)
    (Q : PUnit → sProp 𝕄) :
    held c ((M.slice r hr).squeeze S' hq) q X ⊢ iprop((held c ((M.slice r hr).squeeze S' hq) q X -∗ wpc c (k (shapeCast r.shape X hc)) Q)
      -∗ wpc c (.op (.load M r.toLoadRect hl) k) Q) := by
  iintro H Hk
  unfold held
  iapply (wp_load 𝒱₀ (c : Thread nD τ) none Set.univ (m := M) (by
    rw [set_slot M r hr hq, View.set_slice]; exact Finset.Subset.refl _)) $$ H
  iintro H
  have hX : M.view.readAt (Elt F) r.toLoadRect (((M.slice r hr).squeeze S' hq).view.rep X) = shapeCast r.shape X hc := by
    have h := View.read_rep ((M.slice r hr).squeeze S' hq).view (Val := Elt F) X
    rw [Memref.read_squeeze_slice M r hr hq hc.symm] at h
    conv_rhs => rw [← h]
    rw [shapeCast_shapeCast]
  rw [hX]
  iapply Hk
  iexact H

theorem held_store (hc : r.shape.ShapeCasts S') (w : Vec F r.shape e) (hx : (M.access r).Stores Finset.univ) (hm) (X : Vec F S' e) (k : PUnit → PR F)
    (Q : PUnit → sProp 𝕄) :
    held c ((M.slice r hr).squeeze S' hq) fullShare X ⊢ iprop((held c ((M.slice r hr).squeeze S' hq) fullShare (shapeCast S' w hc) -∗ wpc c (k ⟨⟩) Q)
      -∗ wpc c (.op (.store M r w Finset.univ hx hm) k) Q) := by
  iintro H Hk
  unfold held
  iapply (wp_store 𝒱₀ (c : Thread nD τ) none Set.univ (m := M) (r := r) (Mk := Finset.univ) (by
    rw [set_slot M r hr hq]; exact Finset.Subset.refl _)) $$ H
  iintro H
  iapply Hk
  have hX : ((M.slice r hr).squeeze S' hq).view.read (Elt F) ((M.access r).write (Elt F) (((M.slice r hr).squeeze S' hq).view.rep X) w Finset.univ)
      = shapeCast S' w hc := by
    rw [Memref.read_squeeze_slice M r hr hq hc]
    refine congrArg (fun v => shapeCast S' v hc) ?_
    exact View.read_write_univ (v := M.access r) _ w
  iapply (pointsTo_rep_of_read (c : Thread nD τ) ((M.slice r hr).squeeze S' hq) _ fullShare _ hX)
  iexact H

end Slots

variable (c : Dev nD)

theorem ldAg_rule (Q : PUnit → sProp 𝕄) (i : Fin 4) (q : PosShare TreeShare) (X : Vec F S64x2048 .bf16) (k : Vec F S1x64x2048 .bf16 → PR F) :
    held c (agS i) q X ⊢ iprop((held c (agS i) q X -∗ wpc c (k (up X)) Q) -∗ wpc c (ldAg i k) Q) :=
  held_load c agM (agR i) (fun _ => rfl) squeezes_S1x64x2048_S64x2048 shapeCasts_S64x2048_S1x64x2048 (View.loadsAt_vmem h_S1x64x2048) q X k Q
theorem ldRs_rule (Q : PUnit → sProp 𝕄) (i : Fin 6) (q : PosShare TreeShare) (X : Vec F S64x2048 .bf16) (k : Vec F S1x64x2048 .bf16 → PR F) :
    held c (rsS i) q X ⊢ iprop((held c (rsS i) q X -∗ wpc c (k (up X)) Q) -∗ wpc c (ldRs i k) Q) :=
  held_load c rsM (rsR i) (fun _ => rfl) squeezes_S1x64x2048_S64x2048 shapeCasts_S64x2048_S1x64x2048 (View.loadsAt_vmem h_S1x64x2048) q X k Q
theorem ldWs_rule (Q : PUnit → sProp 𝕄) (i : Fin 2) (q : PosShare TreeShare) (X : Vec F S2048x2048 .f32) (k : Vec F S1x2048x2048 .f32 → PR F) :
    held c (wsS i) q X ⊢ iprop((held c (wsS i) q X -∗ wpc c (k (up2 X)) Q) -∗ wpc c (ldWs i k) Q) :=
  held_load c wsM (wsR i) (fun _ => rfl) squeezes_S1x2048x2048_S2048x2048 casts2 (View.loadsAt_vmem h_S1x2048x2048) q X k Q
theorem stAg_rule (Q : PUnit → sProp 𝕄) (i : Fin 4) (X : Vec F S64x2048 .bf16) (w : Vec F S1x64x2048 .bf16) (k : PR F) :
    held c (agS i) fullShare X ⊢ iprop((held c (agS i) fullShare (dn w) -∗ wpc c k Q) -∗ wpc c (stAg i w k) Q) :=
  held_store c agM (agR i) (fun _ => rfl) squeezes_S1x64x2048_S64x2048 shapeCasts_S1x64x2048_S64x2048 w _ _ X (fun _ => k) Q
theorem stRs_rule (Q : PUnit → sProp 𝕄) (i : Fin 6) (X : Vec F S64x2048 .bf16) (w : Vec F S1x64x2048 .bf16) (k : PR F) :
    held c (rsS i) fullShare X ⊢ iprop((held c (rsS i) fullShare (dn w) -∗ wpc c k Q) -∗ wpc c (stRs i w k) Q) :=
  held_store c rsM (rsR i) (fun _ => rfl) squeezes_S1x64x2048_S64x2048 shapeCasts_S1x64x2048_S64x2048 w _ _ X (fun _ => k) Q

/-! ## The gathered arrays -/

/-- Device `d`'s rows of a gathered array, -/
def rows {e : EltTy} (f : Vec F S256x2048 e) (d : Dev nD) : Vec F S64x2048 e :=
  fun i => f (fun | 0 => ⟨64 * d.val + (i 0).val, by have := (i 0).isLt; have := d.isLt; show _ < 256; show 64 * d.val + (i 0).val < 256; change (i 0).val < 64 at *; change d.val < 4 at *; omega⟩ | 1 => i 1)
/-- the array with them replaced, -/
def setRows {e : EltTy} (f : Vec F S256x2048 e) (d : Dev nD) (w : Vec F S64x2048 e) : Vec F S256x2048 e :=
  fun i => if (i 0).val / 64 = d.val then w (fun | 0 => ⟨(i 0).val % 64, Nat.mod_lt _ (by decide)⟩ | 1 => i 1) else f i
/-- and the array of four devices' rows. -/
def gather {e : EltTy} (X : Dev nD → Vec F S64x2048 e) : Vec F S256x2048 e :=
  fun i => X ⟨(i 0).val / 64, by have h : (i 0).val < 256 := (i 0).isLt; show _ < 4; omega⟩ (fun | 0 => ⟨(i 0).val % 64, Nat.mod_lt _ (by decide)⟩ | 1 => i 1)

/-- The four rows set one after another are the gathered array. -/
theorem setRows_all {e : EltTy} (f : Vec F S256x2048 e) (X : Dev nD → Vec F S64x2048 e) (c : Dev nD) :
    setRows (setRows (setRows (setRows f c (X c)) (prv c) (X (prv c))) (nxt c) (X (nxt c))) (opp c) (X (opp c)) = gather X := by
  funext i
  have key : ∀ d : Dev nD, (i 0).val / 64 = d.val → gather X i = X d (fun | 0 => ⟨(i 0).val % 64, Nat.mod_lt _ (by decide)⟩ | 1 => i 1) := by
    intro d hd
    unfold gather
    exact congrFun (congrArg X (Fin.ext hd)) _
  have hall : ∀ c q : Dev nD, q = opp c ∨ q = nxt c ∨ q = prv c ∨ q = c := by decide
  have hlt : (i 0).val / 64 < 4 := by have h : (i 0).val < 256 := (i 0).isLt; omega
  unfold setRows
  split_ifs with h1 h2 h3 h4
  · exact (key _ h1).symm
  · exact (key _ h2).symm
  · exact (key _ h3).symm
  · exact (key _ h4).symm
  · rcases hall c ⟨_, hlt⟩ with h | h | h | h
    · exact absurd (congrArg Fin.val h) h1
    · exact absurd (congrArg Fin.val h) h2
    · exact absurd (congrArg Fin.val h) h3
    · exact absurd (congrArg Fin.val h) h4

theorem off1_eq (c : Dev nD) : k0_off1 c = ![64 * c.val, 0] := by revert c; decide +kernel
theorem off2_eq (c : Dev nD) : k0_off2 c = ![64 * (prv c).val, 0] := by revert c; decide +kernel
theorem off31_eq (c : Dev nD) : k0_off3 c 1#32 = ![64 * (nxt c).val, 0] := by revert c; decide +kernel
theorem off32_eq (c : Dev nD) : k0_off3 c 2#32 = ![64 * (opp c).val, 0] := by revert c; decide +kernel

/-- A gathered array held whole at contents `f`. -/
abbrev xgAt (c : Dev nD) (f : Vec F S256x2048 .bf16) : sProp 𝕄 :=
  (xgM.view.loc (c : Thread nD τ)) ↦{fullShare} (f : Buf (Elt F) (xgM.view.loc (c : Thread nD τ)))
abbrev ptAt (c : Dev nD) (f : Vec F S256x2048 .f32) : sProp 𝕄 :=
  (ptM.view.loc (c : Thread nD τ)) ↦{fullShare} (f : Buf (Elt F) (ptM.view.loc (c : Thread nD τ)))

theorem read_rows {e : EltTy} (d : Dev nD) {off : Fin 2 → ℕ} (ho : off = ![64 * d.val, 0]) (h : ∀ a, off a + S64x2048.size a ≤ S256x2048.size a)
    (f : Vec F S256x2048 e) (M : Memref sig .tc .vmem S256x2048 e) (g : M.view.ty.Contents (Elt F)) (hf : M.view.read (Elt F) g = f) :
    M.view.readAt (Elt F) (rowR off h).toLoadRect g = rows f d := by
  subst ho
  funext i
  rw [View.readAt_apply, hf]
  unfold rows
  refine congrArg f (funext fun a => Fin.ext ?_)
  match a with
  | 0 => show 64 * d.val + 1 * (i 0).val = 64 * d.val + (i 0).val; omega
  | 1 => show 0 + 1 * (i 1).val = (i 1).val; omega

theorem write_rows (d : Dev nD) {off : Fin 2 → ℕ} (ho : off = ![64 * d.val, 0]) (h : ∀ a, off a + S64x2048.size a ≤ S256x2048.size a)
    (f : Vec F S256x2048 .bf16) (w : Vec F S64x2048 .bf16) :
    (xgM.access (rowR off h)).write (Elt F) f w Finset.univ = setRows f d w := by
  subst ho
  funext i
  unfold setRows
  have hi : (i 0).val < 256 := (i 0).isLt
  split_ifs with hd
  · have hx : (xgM.access (rowR ![64 * d.val, 0] h)).emb (fun | 0 => ⟨(i 0).val % 64, Nat.mod_lt _ (by decide)⟩ | 1 => i 1) = i := by
      refine funext fun a => Fin.ext ?_
      match a with
      | 0 => show 64 * d.val + 1 * ((i 0).val % 64) = (i 0).val; omega
      | 1 => show 0 + 1 * (i 1).val = (i 1).val; omega
    conv_lhs => rw [← hx]
    rw [View.write_emb_of_mem _ _ (Finset.mem_univ _), cast_eq]
    exact congrArg w (funext fun a => match a with | 0 => rfl | 1 => rfl)
  · refine View.write_of_not_mem _ _ _ ?_
    intro hm
    obtain ⟨x, -, hx⟩ := Finset.mem_map.mp hm
    have h0 : 64 * d.val + 1 * (x 0).val = (i 0).val := congrArg (fun j : S256x2048.Idx => (j 0).val) hx
    have hx0 : (x 0).val < 64 := (x 0).isLt
    omega

theorem ldXg_rule (Q : PUnit → sProp 𝕄) (off) (h) (f : Vec F S256x2048 .bf16) (k : Vec F S64x2048 .bf16 → PR F) :
    xgAt c f ⊢ iprop((xgAt c f -∗ ∀ v, wpc c (k v) Q) -∗ wpc c (ldXg off h k) Q) := by
  iintro H Hk
  iapply (wp_load 𝒱₀ (c : Thread nD τ) none Set.univ (m := xgM) (Finset.subset_univ _)) $$ H
  iintro H
  iapply Hk $$ H

theorem stXg_rule (Q : PUnit → sProp 𝕄) (d : Dev nD) {off} (ho : off = ![64 * d.val, 0]) (h) (hp) (f : Vec F S256x2048 .bf16) (w : Vec F S64x2048 .bf16) (k : PR F) :
    xgAt c f ⊢ iprop((xgAt c (setRows f d w) -∗ wpc c k Q) -∗ wpc c (stXg off h hp w k) Q) := by
  iintro H Hk
  iapply (wp_store 𝒱₀ (c : Thread nD τ) none Set.univ (m := xgM) (r := rowR off h) (Mk := Finset.univ) (Finset.subset_univ _)) $$ H
  iintro H
  iapply Hk
  rw [← write_rows d ho h f w]
  iexact H

theorem ldPt_rule (Q : PUnit → sProp 𝕄) (d : Dev nD) {off} (ho : off = ![64 * d.val, 0]) (h) (f : Vec F S256x2048 .f32) (k : Vec F S64x2048 .f32 → PR F) :
    ptAt c f ⊢ iprop((ptAt c f -∗ wpc c (k (rows f d)) Q) -∗ wpc c (ldPt off h k) Q) := by
  iintro H Hk
  iapply (wp_load 𝒱₀ (c : Thread nD τ) none Set.univ (m := ptM) (Finset.subset_univ _)) $$ H
  iintro H
  rw [read_rows d ho h f ptM f rfl]
  iapply Hk
  iexact H

theorem read_all {s : Shape} {e : EltTy} (M : Memref sig .tc .vmem s e) (off : Fin s.rank → ℕ) (h0 : ∀ a, off a = 0) (h : ∀ a, off a + s.size a ≤ s.size a)
    (g : M.view.ty.Contents (Elt F)) : M.view.readAt (Elt F) (Rect.unit off s.size h).toLoadRect g = M.view.read (Elt F) g := by
  funext i
  rw [View.readAt_apply]
  refine congrArg _ (funext fun a => Fin.ext ?_)
  show off a + 1 * (i a).val = (i a).val
  rw [h0]; omega

theorem off00 : ∀ a : Fin 2, (![0, 0] : Fin 2 → ℕ) a = 0 := by decide

theorem ldXgAll_rule (Q : PUnit → sProp 𝕄) (f : Vec F S256x2048 .bf16) (k : Vec F S256x2048 .bf16 → PR F) :
    xgAt c f ⊢ iprop((xgAt c f -∗ wpc c (k f) Q) -∗ wpc c (ldXgAll k) Q) := by
  iintro H Hk
  iapply (wp_load 𝒱₀ (c : Thread nD τ) none Set.univ (m := xgM) (Finset.subset_univ _)) $$ H
  iintro H
  rw [show xgM.view.readAt (Elt F) allR.toLoadRect f = f from (read_all xgM _ off00 _ f).trans rfl]
  iapply Hk
  iexact H
theorem ldPtAll_rule (Q : PUnit → sProp 𝕄) (f : Vec F S256x2048 .f32) (k : Vec F S256x2048 .f32 → PR F) :
    ptAt c f ⊢ iprop((ptAt c f -∗ wpc c (k f) Q) -∗ wpc c (ldPtAll k) Q) := by
  iintro H Hk
  iapply (wp_load 𝒱₀ (c : Thread nD τ) none Set.univ (m := ptM) (Finset.subset_univ _)) $$ H
  iintro H
  rw [show ptM.view.readAt (Elt F) allR.toLoadRect f = f from (read_all ptM _ off00 _ f).trans rfl]
  iapply Hk
  iexact H

theorem write_all {s : Shape} {e : EltTy} (M : Memref sig .tc .vmem s e) (off : Fin s.rank → ℕ) (h0 : ∀ a, off a = 0) (h : ∀ a, off a + s.size a ≤ s.size a)
    (g : M.view.ty.Contents (Elt F)) (w : Vec F s e) :
    M.view.read (Elt F) ((M.access (Rect.unit off s.size h)).write (Elt F) g w Finset.univ) = w := by
  rw [← read_all M off h0 h]
  exact View.read_write_univ (v := M.access (Rect.unit off s.size h)) g w

theorem stPtAll_rule (Q : PUnit → sProp 𝕄) (f w : Vec F S256x2048 .f32) (k : PR F) :
    ptAt c f ⊢ iprop((ptAt c w -∗ wpc c k Q) -∗ wpc c (stPtAll w k) Q) := by
  iintro H Hk
  iapply (wp_store 𝒱₀ (c : Thread nD τ) none Set.univ (m := ptM) (r := allR) (Mk := Finset.univ) (Finset.subset_univ _)) $$ H
  iintro H
  rw [show (ptM.access allR).write (Elt F) f w Finset.univ = w from (write_all ptM _ off00 _ f w)]
  iapply Hk
  iexact H

/-- A staged block held whole at contents `f`, read and written. -/
theorem ldBlk_rule (Q : PUnit → sProp 𝕄) (M : Memref sig .tc .vmem S64x2048 .f32) (g : Buf (Elt F) (M.view.loc (c : Thread nD τ))) (k : Vec F S64x2048 .f32 → PR F) :
    (M.view.loc (c : Thread nD τ) ↦{fullShare} g : sProp 𝕄)
      ⊢ iprop(((M.view.loc (c : Thread nD τ) ↦{fullShare} g) -∗ wpc c (k (M.view.read (Elt F) g)) Q) -∗ wpc c (ldBlk M k) Q) := by
  iintro H Hk
  iapply (wp_load 𝒱₀ (c : Thread nD τ) none Set.univ (m := M) (Finset.subset_univ _)) $$ H
  iintro H
  rw [read_all M _ off00 _ g]
  iapply Hk
  iexact H
theorem stBlk_rule (Q : PUnit → sProp 𝕄) (M : Memref sig .tc .vmem S64x2048 .f32) (g : Buf (Elt F) (M.view.loc (c : Thread nD τ))) (w : Vec F S64x2048 .f32) (k : PR F) :
    (M.view.loc (c : Thread nD τ) ↦{fullShare} g : sProp 𝕄)
      ⊢ iprop(((∃ g' : Buf (Elt F) (M.view.loc (c : Thread nD τ)), ⌜M.view.read (Elt F) g' = w⌝ ∗ (M.view.loc (c : Thread nD τ) ↦{fullShare} g')) -∗ wpc c k Q) -∗ wpc c (stBlk M w k) Q) := by
  iintro H Hk
  iapply (wp_store 𝒱₀ (c : Thread nD τ) none Set.univ (m := M) (r := blkR) (Mk := Finset.univ) (Finset.subset_univ _)) $$ H
  iintro H
  iapply Hk
  iexists ((M.access blkR).write (Elt F) g w Finset.univ)
  isplitr
  · ipureintro; exact write_all M _ off00 _ g w
  iexact H

end Cert.KernelIdeal.Run

end
-- ==== Proof.Comm.lean ====
/-
# The transfers' and the weight copies' rules

A transfer's ghost state goes through four stages in a round: ready, sent, sent and its departure waited for, ready again
for the next round.
-/
module

public import proofs.«01_k».proof.Proof.Rules

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (V : Fin 6 → ℕ → Dev nD → Vec F S64x2048 .bf16) (K : Dev nD × CK → ℕ)

/-- Every cell's invariant, at the name `K` gives it. -/
abbrev invAt (ck : Dev nD × CK) : sProp 𝕄 := cellInv ER (Rd V) (K ck) (kcell ck)
def invs : sProp 𝕄 := bigSep Finset.univ fun ck => invAt V K ck
instance : Persistent (invs V K) := by unfold invs; infer_instance

theorem invs_at (ck : Dev nD × CK) : invs V K ⊢ invAt V K ck := bigSep_elim (Finset.mem_univ ck)

/-- What every step of the body may use: the invariants and the levels. -/
def ctx : sProp 𝕄 := iprop(invs V K ∗ levAts L lv)
instance : Persistent (ctx V K) := by unfold ctx; infer_instance

/-- What the device still owes, before its `n`-th transfer. -/
def owesC (c : Dev nD) (n : ℕ) : sProp 𝕄 := iprop(∃ W : Waits sig ℕ, owes (c : Thread nD τ) (rem c n) W)

/-! ## A transfer's ghost state, through its stages -/

/-- The tokens of round `r` of transfer `j`: its two duties, and the credit for what lands here. -/
def tk (j : Fin 6) (r : ℕ) (c : Dev nD) : sProp 𝕄 :=
  iprop(dutyTok ER (sendCell c j) r false ∗ dutyTok ER (recvCell (tgt j c) j) r false ∗ cred (tallyAt (recvCell c j) r N))
/-- Where device `c` stands at the two cells of transfer `j`. -/
def ps (j : Fin 6) (r : ℕ) (c : Dev nD) : sProp 𝕄 :=
  iprop(atPos ER (sendCell c j) r ∅ 0 ∗ atPos ER (recvCell c j) r ∅ 0 ∗ reached ER (sendCell c j) r)
/-- Sent, neither end waited for, -/
def sent (j : Fin 6) (r : ℕ) (c : Dev nD) : sProp 𝕄 :=
  iprop(cred (tallyAt (sendCell c j) r N) ∗ cred (tallyAt (recvCell c j) r N) ∗ atPos ER (sendCell c j) r ∅ 0 ∗ atPos ER (recvCell c j) r ∅ 0)
/-- and sent, the send waited for. -/
def half (j : Fin 6) (r : ℕ) (c : Dev nD) : sProp 𝕄 :=
  iprop(cred (tallyAt (recvCell c j) r N) ∗ atPos ER (sendCell c j) (r + 1) ∅ 0 ∗ atPos ER (recvCell c j) r ∅ 0 ∗ reached ER (sendCell c j) (r + 1))

theorem read_write_dst (j : Fin 6) (c : Dev nD) (X Y : Vec F S64x2048 .bf16) :
    (dstM j).view.read (Elt F) ((dstM j).view.write (Elt F) ((dstM j).view.rep Y) ((srcM j).view.read (Elt F) ((srcM j).view.rep X)) Finset.univ) = X := by
  rw [View.read_write_univ, View.read_rep]

variable (c : Dev nD)

/-- Transfer `j` of layer `r` to the neighbour `n`, which granted the slot it lands in: the block leaves at its share, with
    what rides on it. -/
theorem xfer_rule (Q : PUnit → sProp 𝕄) (j : Fin 6) (r : ℕ) (hr : r < 3) (n : Dev nD) (hn : n = tgt j c) (k : PR F) :
    iprop(ctx V K ∗ held c (srcM j) (shr j) (V j r c) ∗ grant j r (tgt j c) ∗ extra j r c ∗ owesC c (6 * r + j.val) ∗ tk j r c ∗ ps j r c)
      ⊢ iprop(((sent j r c ∗ owesC c (6 * r + j.val + 1)) -∗ wpc c k Q) -∗ wpc c (xfer j n k) Q) := by
  subst hn
  unfold ctx grant anyAt owesC tk ps
  iintro ⟨⟨#HI, #Hlev⟩, Hsrc, ⟨⟨%Y, Hdst⟩, #HrV⟩, Hx, ⟨%W, HO⟩, ⟨HtS, HtV, HcV⟩, HaS, HaV, #HrS⟩ Hk
  ihave #HIs := (invs_at V K (c, some (false, j))) $$ HI
  ihave #HIr := (invs_at V K (tgt j c, some (true, j))) $$ HI
  unfold held
  iapply (Rounds.wp_send_pointsTo_with 𝒱₀ ER (Rd V) (c : Thread nD τ) none (κ₁ := K (c, some (false, j))) (κ₂ := K (tgt j c, some (true, j)))
    (c' := (tgt j c : Thread nD τ)) (src := srcM j) (dst := dstM j) (sS := .dma (sS j)) (sem := .dma (rS j))
    (r₁ := r) (r₂ := r) (d₁ := false) (d₂ := false) (fd := (dstM j).view.rep Y) (F := extra j r c)
    (by rw [duties_send V c j hr]; exact Finset.mem_singleton_self _) (by rw [duties_recv V (tgt j c) j hr]; exact Finset.mem_singleton_self _)
    r r N (N_dst j) (amount_send V c j r false) (amount_recv V (tgt j c) j r false) (rem c (6 * r + j.val + 1)) (rem_xfer c r hr j) (W := W)
    (by rw [payload_send]; unfold sendPay held; exact BI.Entails.refl _)
    (by
      rw [payload_recv]; unfold recvPay; rw [src_tgt]
      refine sep_mono_left ?_
      unfold held
      exact pointsTo_rep_of_read (tgt j c : Thread nD τ) (dstM j) _ fullShare _ (read_write_dst j c _ Y)))
    $$ [Hsrc Hdst Hx HO HtS HtV]
  · isplitr; · iexact HIs
    isplitr; · iexact HIr
    isplitl [Hsrc]; · iexact Hsrc
    isplitl [Hdst Hx]
    · isplitl [Hdst]; · iexact Hdst
      iexact Hx
    isplitl [HO]; · iexact HO
    isplitl [HtS]; · iexact HtS
    isplitr; · iexact HrS
    isplitl [HtV]; · iexact HtV
    iexact HrV
  iintro ⟨HcS, HO⟩
  iapply Hk
  unfold sent
  isplitr [HO]
  · isplitl [HcS]; · iexact HcS
    isplitl [HcV]; · iexact HcV
    isplitl [HaS]; · iexact HaS
    iexact HaV
  iexists W; iexact HO

/-- The wait for transfer `j`'s departure gives its source back. -/
theorem waitS_rule (Q : PUnit → sProp 𝕄) (j : Fin 6) (r : ℕ) (hr : r < 3) (n : ℕ) (k : PR F) :
    iprop(ctx V K ∗ owesC c n ∗ sent j r c)
      ⊢ iprop(((half j r c ∗ held c (srcM j) (shr j) (V j r c) ∗ owesC c n) -∗ wpc c k Q) -∗ wpc c (waitS j k) Q) := by
  unfold ctx owesC sent
  iintro ⟨⟨#HI, #Hlev⟩, ⟨%W, HO⟩, HcS, HcV, HaS, HaV⟩ Hk
  ihave #HIs := (invs_at V K (c, some (false, j))) $$ HI
  iapply (Rounds.wp_wait_rest_token 𝒱₀ ER (Rd V) (c : Thread nD τ) none (κ := K (c, some (false, j)))
      (wpE_waitDma2_eq 𝒱₀ (c : Thread nD τ) none Set.univ) (Set.mem_univ _) r (O := rem c n) (W := W) (R := r) (m := 0) (T := ∅)
      (by rw [Nat.zero_add, expect_send V c j hr])) $$ [HcS HO HaS]
  · isplitr; · iexact HIs
    isplitl [HcS]; · rw [N_src j]; iexact HcS
    isplitl [HO]; · iexact HO
    isplitr; · iapply (mayWait_rem c (.dma (sS j)) hr (by rw [show lv _ r = 0 from lv_send c j r]; omega)); iexact Hlev
    iexact HaS
  iintro ⟨HO, HaS, #HrS, Hpay⟩
  ihave Hsrc := (Entails.of_eq (rest_send V c j hr)) $$ Hpay
  iapply Hk
  unfold half
  isplitl [HcV HaS HaV]
  · isplitl [HcV]; · iexact HcV
    isplitl [HaS]; · iexact HaS
    isplitl [HaV]; · iexact HaV
    iexact HrS
  isplitl [Hsrc]; · unfold sendPay; iexact Hsrc
  iexists _; iexact HO

/-- The wait for the arrival of the neighbour's transfer `j`: the block that landed and what rode on it. -/
theorem waitR_rule (Q : PUnit → sProp 𝕄) (j : Fin 6) (r : ℕ) (hr : r < 3) (n : ℕ) (hn : 6 * r + j.val < n) (k : PR F) :
    iprop(ctx V K ∗ owesC c n ∗ half j r c)
      ⊢ iprop(((ps j (r + 1) c ∗ □ reached ER (recvCell c j) (r + 1) ∗ held c (dstM j) fullShare (V j r (src j c)) ∗ extra j r (src j c) ∗ owesC c n) -∗ wpc c k Q)
        -∗ wpc c (waitR j k) Q) := by
  unfold ctx owesC half
  iintro ⟨⟨#HI, #Hlev⟩, ⟨%W, HO⟩, HcV, HaS, HaV, #HrS⟩ Hk
  ihave #HIs := (invs_at V K (c, some (true, j))) $$ HI
  iapply (Rounds.wp_wait_rest_token 𝒱₀ ER (Rd V) (c : Thread nD τ) none (κ := K (c, some (true, j)))
      (wpE_waitDma2_eq 𝒱₀ (c : Thread nD τ) none Set.univ) (Set.mem_univ _) r (O := rem c n) (W := W) (R := r) (m := 0) (T := ∅)
      (by rw [Nat.zero_add, expect_recv V c j hr])) $$ [HcV HO HaV]
  · isplitr; · iexact HIs
    isplitl [HcV]; · rw [N_dst j]; iexact HcV
    isplitl [HO]; · iexact HO
    isplitr; · iapply (mayWait_rem c (.dma (rS j)) hr (by rw [show lv _ r = 6 * r + j.val + 2 from lv_recv c j r]; omega)); iexact Hlev
    iexact HaV
  iintro ⟨HO, HaV, #HrV, Hpay⟩
  ihave Hp := (Entails.of_eq (rest_recv V c j hr)) $$ Hpay
  unfold recvPay
  icases Hp with ⟨Hdst, Hx⟩
  iapply Hk
  unfold ps
  isplitl [HaS HaV]
  · isplitl [HaS]; · iexact HaS
    isplitl [HaV]; · iexact HaV
    iexact HrS
  isplitr; · imodintro; iexact HrV
  isplitl [Hdst]; · iexact Hdst
  isplitl [Hx]; · iexact Hx
  iexists _; iexact HO

/-! ## The weight copies -/

/-- A tile's credit. -/
abbrev NW : ℕ := (wsS 0).view.dmaCredit
theorem NW_pos : 0 < NW := View.dmaCredit_pos _ (by decide)
theorem NW_eq : ∀ i : Fin 2, (wsS i).view.dmaCredit = NW
  | 0 => rfl | 1 => rfl

/-- A weight held whole at contents `f`, named by a view of it. -/
abbrev wtAt {s : Shape} (T : Memref sig .tc .hbm s .f32) (f : Buf (Elt F) (T.view.loc (c : Thread nD τ))) : sProp 𝕄 :=
  T.view.loc (c : Thread nD τ) ↦{fullShare} f

/-- A tile on its way into a half of the double buffer, and the rest of its weight. -/
def flyW (T : Memref sig .tc .hbm S2048x2048 .f32) (i : Fin 2) (f : Buf (Elt F) (T.view.loc (c : Thread nD τ))) : sProp 𝕄 :=
  iprop(Flight EC (c : Thread nD τ) (.dma (wS i)) 0 NW iprop(held c (wsS i) fullShare (T.view.read (Elt F) f) ∗ (T.view.loc (c : Thread nD τ) ↦[T.view.set]{fullShare} f))
    ∗ (T.view.loc (c : Thread nD τ) ↦[Finset.univ \ T.view.set]{fullShare} f))

abbrev wsem (i : Fin 2) : sProp 𝕄 := semVal ((c : Thread nD τ), .dma (wS i)) 0

theorem cpy_rule (Q : PUnit → sProp 𝕄) (T : Memref sig .tc .hbm S2048x2048 .f32) (i : Fin 2) (f : Buf (Elt F) (T.view.loc (c : Thread nD τ))) (k : PR F) :
    iprop(wtAt c T f ∗ anyAt c (wsS i) ∗ wsem c i) ⊢ iprop((flyW c T i f -∗ wpc c k Q) -∗ wpc c (cpy T i k) Q) := by
  unfold anyAt held
  iintro ⟨Hw, ⟨%X, Hd⟩, Hz⟩ Hk
  ihave Hw := (pointsTo_split_subset (Finset.subset_univ T.view.set)).1 $$ Hw
  icases Hw with ⟨Hw, Hrest⟩
  iapply (wp_dmaLocal EC 𝒱₀ (c : Thread nD τ) none (src := T) (dst := wsS i) (via := .same) (sm := .dma (wS i)) 0 NW (NW_eq i) NW_pos (Finset.Subset.refl _)) $$ [Hw Hd Hz]
  · isplitl [Hw]; · iexact Hw
    isplitl [Hd]; · iexact Hd
    iexact Hz
  iintro Hf
  iapply Hk
  unfold flyW
  isplitl [Hf]
  · iapply (Flight_mono EC (c : Thread nD τ) (sep_mono_left ?_)) $$ Hf
    unfold held
    exact pointsTo_rep_of_read (c : Thread nD τ) (wsS i) _ fullShare _ (by rw [View.read_write_univ])
  iexact Hrest

theorem waitW_rule (Q : PUnit → sProp 𝕄) (T : Memref sig .tc .hbm S2048x2048 .f32) (i : Fin 2) (f : Buf (Elt F) (T.view.loc (c : Thread nD τ))) (n : ℕ) (k : PR F) :
    iprop(ctx V K ∗ flyW c T i f ∗ owesC c n)
      ⊢ iprop(((wtAt c T f ∗ held c (wsS i) fullShare (T.view.read (Elt F) f) ∗ wsem c i ∗ owesC c n) -∗ wpc c k Q) -∗ wpc c (waitW T i k) Q) := by
  unfold ctx owesC flyW
  iintro ⟨⟨#HI, #Hlev⟩, ⟨Hf, Hrest⟩, ⟨%W, HO⟩⟩ Hk
  iapply (wp_waitLocalO EC 𝒱₀ (c : Thread nD τ) none 0 (NW_eq i) (O := rem c n) (W := W)) $$ [Hf HO]
  · isplitl [Hf]; · iexact Hf
    isplitl [HO]; · iexact HO
    iapply (mayWait_rem c (.dma (wS i)) (u := 0) (by decide) (by rw [show lv _ 0 = 0 from lv_w c i 0]; omega)); iexact Hlev
  iintro ⟨⟨Hd, Hw⟩, Hz, HO⟩
  iapply Hk
  isplitl [Hw Hrest]
  · iapply (pointsTo_split_subset (Finset.subset_univ T.view.set)).2
    isplitl [Hw]; · iexact Hw
    iexact Hrest
  isplitl [Hd]; · iexact Hd
  isplitl [Hz]; · iexact Hz
  iexists _; iexact HO

end Cert.KernelIdeal.Run

end
-- ==== Proof.Layer.lean ====
/-
# A layer, segment by segment

What each segment of a layer does at a symbolic device: the all-gather, the prefetch of the first weight tiles, the two
tile products, the reduce-scatter.
-/
module

public import proofs.«01_k».proof.Proof.Comm

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (X : ℕ → Dev nD → Vec F S64x2048 .bf16) (Pt : ℕ → Dev nD → Vec F S256x2048 .f32) (K : Dev nD × CK → ℕ)

/-! ## What the transfers carry -/

/-- The reduce-scatter's blocks, from the device's product `p`: the chunk of the device two further on, sent right; the
    chunk of the left neighbour, sent left; the chunk of the right neighbour with what arrived added, sent right. -/
def R0 (p : Vec F S256x2048 .f32) (c : Dev nD) : Vec F S64x2048 .bf16 := dn (k0_pay10 (rows p (opp c)))
def R3 (p : Vec F S256x2048 .f32) (c : Dev nD) : Vec F S64x2048 .bf16 := dn (k0_pay11 (rows p (prv c)))
def R2 (x : Vec F S64x2048 .bf16) (p : Vec F S256x2048 .f32) (c : Dev nD) : Vec F S64x2048 .bf16 :=
  dn (k0_pay13 (k0_pay12 (up x) (rows p (nxt c))))

/-- What transfer `j` of layer `r` of device `c` carries, of the layers' inputs `X` and products `Pt`. -/
def Vx : Fin 6 → ℕ → Dev nD → Vec F S64x2048 .bf16
  | 0, r, c => X r c
  | 1, r, c => X r c
  | 2, r, c => X r (prv c)
  | 3, r, c => R0 (Pt r c) c
  | 4, r, c => R2 (R0 (Pt r (prv c)) (prv c)) (Pt r c) c
  | 5, r, c => R3 (Pt r c) c

variable (c : Dev nD)

theorem held_share {sp : Space} {s : Shape} {e : EltTy} (m : Memref sig .tc sp s e) (q : PosShare TreeShare) (Y : Vec F s e) :
    held c m q Y ⊣⊢ iprop(held c m q.left Y ∗ held c m q.right Y) := pointsTo_share (PosShare.mem_left_op_right q)

theorem extra0 (r : ℕ) : (grant 5 r c : sProp 𝕄) = extra 0 r c := rfl
theorem extra1 (r : ℕ) : (grant 4 r c : sProp 𝕄) = extra 1 r c := rfl
theorem land0 (r : ℕ) : held c (dstM 0) fullShare (Vx X Pt 0 r (src 0 c)) = held c (agS 1) fullShare (X r (prv c)) := rfl
theorem land1 (r : ℕ) : held c (dstM 1) fullShare (Vx X Pt 1 r (src 1 c)) = held c (agS 2) fullShare (X r (nxt c)) := rfl
theorem land2 (r : ℕ) : held c (dstM 2) fullShare (Vx X Pt 2 r (src 2 c)) = held c (agS 3) fullShare (X r (prv (prv c))) := rfl
theorem land3 (r : ℕ) : held c (dstM 3) fullShare (Vx X Pt 3 r (src 3 c)) = held c (rsS 1) fullShare (R0 (Pt r (prv c)) (prv c)) := rfl
theorem land4 (r : ℕ) : held c (dstM 4) fullShare (Vx X Pt 4 r (src 4 c)) = held c (rsS 4) fullShare (Vx X Pt 4 r (prv c)) := rfl
theorem land5 (r : ℕ) : held c (dstM 5) fullShare (Vx X Pt 5 r (src 5 c)) = held c (rsS 5) fullShare (Vx X Pt 5 r (nxt c)) := rfl

theorem dn_up (Y : Vec F S64x2048 .bf16) : dn (up Y) = Y := shapeCast_shapeCast _ _ _

/-- What the all-gather's stores write: the slot's block. -/
theorem pay3_up (Y : Vec F S64x2048 .bf16) : k0_pay3 (up Y) = Y := by
  unfold k0_pay3
  show shapeCast S64x2048 (dn (up Y)) shapeCasts_S64x2048_S64x2048 = Y
  rw [dn_up]
  exact funext fun i => congrArg Y (Shape.reshapeEquiv_self _ i)
theorem pay4_up (Y : Vec F S64x2048 .bf16) : k0_pay4 (up Y) = Y := pay3_up Y
theorem pay5_up (Y : Vec F S64x2048 .bf16) : k0_pay5 (up Y) = Y := pay3_up Y
theorem pay6_up (Y : Vec F S64x2048 .bf16) : k0_pay6 (up Y) = Y := pay3_up Y

abbrev CTX : sProp 𝕄 := ctx (Vx X Pt) K

/-! ## The all-gather -/

set_option maxHeartbeats 1000000 in
/-- The all-gather of layer `r`: the gathered array holds every device's block; the slots are free again, granted for the
    next round; the grants that rode on the two first hops are in hand. -/
theorem segA_rule (Q : PUnit → sProp 𝕄) (r : ℕ) (hr : r < 3) (n3 n4 n5 : Dev nD) (h3 : n3 = tgt 0 c) (h4 : n4 = tgt 1 c) (h5 : n5 = tgt 2 c)
    (k : Vec F S256x2048 .bf16 → PR F) :
    iprop(CTX X Pt K ∗ held c (agS 0) fullShare (X r c) ∗ grant 0 r (tgt 0 c) ∗ grant 1 r (tgt 1 c) ∗ grant 2 r (tgt 2 c) ∗ grant 5 r c ∗ grant 4 r c
        ∗ owesC c (6 * r) ∗ tk 0 r c ∗ tk 1 r c ∗ tk 2 r c ∗ ps 0 r c ∗ ps 1 r c ∗ ps 2 r c ∗ (∃ f, xgAt c f))
      ⊢ iprop(((anyAt c (agS 0) ∗ grant 0 (r + 1) c ∗ grant 1 (r + 1) c ∗ grant 2 (r + 1) c ∗ grant 5 r (tgt 5 c) ∗ grant 4 r (tgt 4 c)
          ∗ owesC c (6 * r + 3) ∗ ps 0 (r + 1) c ∗ ps 1 (r + 1) c ∗ ps 2 (r + 1) c ∗ (∃ f, xgAt c f)) -∗ wpc c (k (gather (X r))) Q)
        -∗ wpc c (segA c n3 n4 n5 k) Q) := by
  iintro ⟨#HC, Hag, Hg0, Hg1, Hg2, Hg5, Hg4, Ho, Ht0, Ht1, Ht2, Hp0, Hp1, Hp2, ⟨%f, Hxg⟩⟩ Hk
  ihave Hag := (held_share c (agS 0) fullShare (X r c)).1 $$ Hag
  icases Hag with ⟨Hag0, Hag⟩
  ihave Hag := (held_share c (agS 0) fullShare.right (X r c)).1 $$ Hag
  icases Hag with ⟨Hag1, Hag⟩
  -- the two first hops
  iapply (xfer_rule (Vx X Pt) K c Q 0 r hr n3 h3) $$ [Hag0 Hg0 Hg5 Ho Ht0 Hp0]
  · isplitr; · iexact HC
    isplitl [Hag0]; · iexact Hag0
    isplitl [Hg0]; · iexact Hg0
    isplitl [Hg5]; · iapply (Entails.of_eq (extra0 c r)); iexact Hg5
    isplitl [Ho]; · iexact Ho
    isplitl [Ht0]; · iexact Ht0
    iexact Hp0
  iintro ⟨Hs0, Ho⟩
  iapply (xfer_rule (Vx X Pt) K c Q 1 r hr n4 h4) $$ [Hag1 Hg1 Hg4 Ho Ht1 Hp1]
  · isplitr; · iexact HC
    isplitl [Hag1]; · iexact Hag1
    isplitl [Hg1]; · iexact Hg1
    isplitl [Hg4]; · iapply (Entails.of_eq (extra1 c r)); iexact Hg4
    isplitl [Ho]; · iexact Ho
    isplitl [Ht1]; · iexact Ht1
    iexact Hp1
  iintro ⟨Hs1, Ho⟩
  -- the own block into its rows
  iapply (ldAg_rule c Q 0 _ (X r c)) $$ Hag
  iintro Hag
  iapply (ldXg_rule c Q) $$ Hxg
  iintro Hxg %v0
  iapply (stXg_rule c Q c (off1_eq c)) $$ Hxg
  iintro Hxg
  rw [pay3_up]
  iapply (waitS_rule (Vx X Pt) K c Q 0 r hr) $$ [Ho Hs0]
  · isplitr; · iexact HC
    isplitl [Ho]; · iexact Ho
    iexact Hs0
  iintro ⟨Hs0, Hag0, Ho⟩
  iapply (waitR_rule (Vx X Pt) K c Q 0 r hr _ (by show 6 * r + 0 < 6 * r + 1 + 1; omega)) $$ [Ho Hs0]
  · isplitr; · iexact HC
    isplitl [Ho]; · iexact Ho
    iexact Hs0
  iintro ⟨Hp0, #Hr0, Hl, Hx0, Ho⟩
  ihave Hl := (Entails.of_eq (land0 X Pt c r)) $$ Hl
  -- the left neighbour's block, forwarded to the right while it is read
  ihave Hl := (held_share c (agS 1) fullShare (X r (prv c))).1 $$ Hl
  icases Hl with ⟨Hl0, Hl⟩
  iapply (xfer_rule (Vx X Pt) K c Q 2 r hr n5 h5) $$ [Hl0 Hg2 Ho Ht2 Hp2]
  · isplitr; · iexact HC
    isplitl [Hl0]; · iexact Hl0
    isplitl [Hg2]; · iexact Hg2
    isplitr; · unfold extra; iempintro
    isplitl [Ho]; · iexact Ho
    isplitl [Ht2]; · iexact Ht2
    iexact Hp2
  iintro ⟨Hs2, Ho⟩
  iapply (ldAg_rule c Q 1 _ (X r (prv c))) $$ Hl
  iintro Hl
  iapply (ldXg_rule c Q) $$ Hxg
  iintro Hxg %v1
  iapply (stXg_rule c Q (prv c) (off2_eq c)) $$ Hxg
  iintro Hxg
  rw [pay4_up]
  -- the right neighbour's
  iapply (waitS_rule (Vx X Pt) K c Q 1 r hr) $$ [Ho Hs1]
  · isplitr; · iexact HC
    isplitl [Ho]; · iexact Ho
    iexact Hs1
  iintro ⟨Hs1, Hag1, Ho⟩
  iapply (waitR_rule (Vx X Pt) K c Q 1 r hr _ (by show 6 * r + 1 < 6 * r + 2 + 1; omega)) $$ [Ho Hs1]
  · isplitr; · iexact HC
    isplitl [Ho]; · iexact Ho
    iexact Hs1
  iintro ⟨Hp1, #Hr1, Hn, Hx1, Ho⟩
  ihave Hn := (Entails.of_eq (land1 X Pt c r)) $$ Hn
  iapply (ldAg_rule c Q 2 fullShare (X r (nxt c))) $$ Hn
  iintro Hn
  iapply (ldXg_rule c Q) $$ Hxg
  iintro Hxg %v2
  iapply (stXg_rule c Q (nxt c) (off31_eq c)) $$ Hxg
  iintro Hxg
  rw [pay5_up]
  -- the one two further on
  iapply (waitS_rule (Vx X Pt) K c Q 2 r hr) $$ [Ho Hs2]
  · isplitr; · iexact HC
    isplitl [Ho]; · iexact Ho
    iexact Hs2
  iintro ⟨Hs2, Hl0, Ho⟩
  iapply (waitR_rule (Vx X Pt) K c Q 2 r hr _ (by show 6 * r + 2 < 6 * r + 2 + 1; omega)) $$ [Ho Hs2]
  · isplitr; · iexact HC
    isplitl [Ho]; · iexact Ho
    iexact Hs2
  iintro ⟨Hp2, #Hr2, Ho4, Hx2, Ho⟩
  ihave Ho4 := (Entails.of_eq (land2 X Pt c r)) $$ Ho4
  iapply (ldAg_rule c Q 3 fullShare (X r (prv (prv c)))) $$ Ho4
  iintro Ho4
  iapply (ldXg_rule c Q) $$ Hxg
  iintro Hxg %v3
  iapply (stXg_rule c Q (opp c) (off32_eq c)) $$ Hxg
  iintro Hxg
  rw [pay6_up, prv_prv]
  iapply (ldXgAll_rule c Q) $$ Hxg
  iintro Hxg
  rw [setRows_all f (X r) c]
  iapply Hk
  ihave Hag := (held_share c (agS 0) fullShare.right (X r c)).2 $$ [Hag1 Hag]
  · isplitl [Hag1]; · iexact Hag1
    iexact Hag
  ihave Hag := (held_share c (agS 0) fullShare (X r c)).2 $$ [Hag0 Hag]
  · isplitl [Hag0]; · iexact Hag0
    iexact Hag
  ihave Hl := (held_share c (agS 1) fullShare (X r (prv c))).2 $$ [Hl0 Hl]
  · isplitl [Hl0]; · iexact Hl0
    iexact Hl
  isplitl [Hag]; · unfold anyAt; iexists _; iexact Hag
  isplitl [Hl]
  · unfold grant anyAt; isplitl [Hl]; · iexists _; iexact Hl
    iexact Hr0
  isplitl [Hn]
  · unfold grant anyAt; isplitl [Hn]; · iexists _; iexact Hn
    iexact Hr1
  isplitl [Ho4]
  · unfold grant anyAt; isplitl [Ho4]; · iexists _; iexact Ho4
    iexact Hr2
  isplitl [Hx0]; · iapply (Entails.of_eq (extra0 (tgt 5 c) r).symm); iexact Hx0
  isplitl [Hx1]; · iapply (Entails.of_eq (extra1 (tgt 4 c) r).symm); iexact Hx1
  isplitl [Ho]; · iexact Ho
  isplitl [Hp0]; · iexact Hp0
  isplitl [Hp1]; · iexact Hp1
  isplitl [Hp2]; · iexact Hp2
  iexists _; iexact Hxg

/-! ## The tile products -/

/-- A layer's product: the two column tiles of the first weight, each rectified and multiplied with its row tile of the
    second, the second product added to the first. -/
def prods (xg : Vec F S256x2048 .bf16) (a0 a1 b0 b1 : Vec F S2048x2048 .f32) : Vec F S256x2048 .f32 :=
  k0_pay9 xg (up2 a1) (k0_pay8 (k0_pay7 xg (up2 a0)) (up2 b0)) (up2 b1)

section Products
variable (wi : Memref sig .tc .hbm S2048x4096 .f32) (wo : Memref sig .tc .hbm S4096x2048 .f32)
  (f : Buf (Elt F) (wi.view.loc (c : Thread nD τ))) (g : Buf (Elt F) (wo.view.loc (c : Thread nD τ)))

/-- The product of a layer with its weights at contents `f` and `g`. -/
def prodOf (xg : Vec F S256x2048 .bf16) : Vec F S256x2048 .f32 :=
  prods xg ((wi0 wi).view.read (Elt F) f) ((wi1 wi).view.read (Elt F) f) ((wo0 wo).view.read (Elt F) g) ((wo1 wo).view.read (Elt F) g)

/-- Both halves of the double buffer free. -/
def wfree : sProp 𝕄 := iprop(anyAt c (wsS 0) ∗ anyAt c (wsS 1) ∗ wsem c 0 ∗ wsem c 1)
/-- The first tile of each weight on its way. -/
def wfly : sProp 𝕄 := iprop(flyW c (wi0 wi) 0 f ∗ flyW c (wo0 wo) 1 g)

theorem segPre_rule (Q : PUnit → sProp 𝕄) (k : PR F) :
    iprop(wtAt c wi f ∗ wtAt c wo g ∗ wfree c) ⊢ iprop((wfly c wi wo f g -∗ wpc c k Q) -∗ wpc c (segPre wi wo k) Q) := by
  unfold wfree
  iintro ⟨Hi, Ho, Hd0, Hd1, Hz0, Hz1⟩ Hk
  iapply (cpy_rule c Q (wi0 wi) 0 f) $$ [Hi Hd0 Hz0]
  · isplitl [Hi]; · iexact Hi
    isplitl [Hd0]; · iexact Hd0
    iexact Hz0
  iintro Hf
  iapply (cpy_rule c Q (wo0 wo) 1 g) $$ [Ho Hd1 Hz1]
  · isplitl [Ho]; · iexact Ho
    isplitl [Hd1]; · iexact Hd1
    iexact Hz1
  iintro Hf'
  iapply Hk
  unfold wfly
  isplitl [Hf]; · iexact Hf
  iexact Hf'

set_option maxHeartbeats 1000000 in
theorem segP_rule (V : Fin 6 → ℕ → Dev nD → Vec F S64x2048 .bf16) (Q : PUnit → sProp 𝕄) (n : ℕ) (xg : Vec F S256x2048 .bf16) (k : PR F) :
    iprop(ctx V K ∗ wfly c wi wo f g ∗ owesC c n ∗ (∃ p, ptAt c p))
      ⊢ iprop(((wtAt c wi f ∗ wtAt c wo g ∗ wfree c ∗ owesC c n ∗ ptAt c (prodOf c wi wo f g xg)) -∗ wpc c k Q) -∗ wpc c (segP wi wo xg k) Q) := by
  unfold wfly
  iintro ⟨#HC, ⟨Hf, Hg⟩, Ho, ⟨%p, Hp⟩⟩ Hk
  iapply (waitW_rule V K c Q (wi0 wi) 0 f n) $$ [Hf Ho]
  · isplitr; · iexact HC
    isplitl [Hf]; · iexact Hf
    iexact Ho
  iintro ⟨Hi, Hd0, Hz0, Ho⟩
  iapply (ldWs_rule c Q 0 fullShare _) $$ Hd0
  iintro Hd0
  iapply (cpy_rule c Q (wi1 wi) 0 f) $$ [Hi Hd0 Hz0]
  · isplitl [Hi]; · iexact Hi
    isplitl [Hd0]; · unfold anyAt; iexists _; iexact Hd0
    iexact Hz0
  iintro Hf
  iapply (waitW_rule V K c Q (wo0 wo) 1 g n) $$ [Hg Ho]
  · isplitr; · iexact HC
    isplitl [Hg]; · iexact Hg
    iexact Ho
  iintro ⟨Hw, Hd1, Hz1, Ho⟩
  iapply (ldWs_rule c Q 1 fullShare _) $$ Hd1
  iintro Hd1
  iapply (ldPtAll_rule c Q) $$ Hp
  iintro Hp
  iapply (stPtAll_rule c Q) $$ Hp
  iintro Hp
  iapply (cpy_rule c Q (wo1 wo) 1 g) $$ [Hw Hd1 Hz1]
  · isplitl [Hw]; · iexact Hw
    isplitl [Hd1]; · unfold anyAt; iexists _; iexact Hd1
    iexact Hz1
  iintro Hg
  iapply (waitW_rule V K c Q (wi1 wi) 0 f n) $$ [Hf Ho]
  · isplitr; · iexact HC
    isplitl [Hf]; · iexact Hf
    iexact Ho
  iintro ⟨Hi, Hd0, Hz0, Ho⟩
  iapply (ldWs_rule c Q 0 fullShare _) $$ Hd0
  iintro Hd0
  iapply (waitW_rule V K c Q (wo1 wo) 1 g n) $$ [Hg Ho]
  · isplitr; · iexact HC
    isplitl [Hg]; · iexact Hg
    iexact Ho
  iintro ⟨Hw, Hd1, Hz1, Ho⟩
  iapply (ldPtAll_rule c Q) $$ Hp
  iintro Hp
  iapply (ldWs_rule c Q 1 fullShare _) $$ Hd1
  iintro Hd1
  iapply (ldPtAll_rule c Q) $$ Hp
  iintro Hp
  iapply (stPtAll_rule c Q) $$ Hp
  iintro Hp
  iapply Hk
  unfold wfree
  isplitl [Hi]; · iexact Hi
  isplitl [Hw]; · iexact Hw
  isplitl [Hd0 Hd1 Hz0 Hz1]
  · isplitl [Hd0]; · unfold anyAt; iexists _; iexact Hd0
    isplitl [Hd1]; · unfold anyAt; iexists _; iexact Hd1
    isplitl [Hz0]; · iexact Hz0
    iexact Hz1
  isplitl [Ho]; · iexact Ho
  iexact Hp

end Products

/-! ## The reduce-scatter -/

/-- What stays with the device after the last layer: the slots nobody will write again. -/
def keep (r : ℕ) (c : Dev nD) : sProp 𝕄 :=
  if r < 2 then iprop(emp) else iprop(grant 0 (r + 1) c ∗ grant 1 (r + 1) c ∗ grant 2 (r + 1) c ∗ grant 3 (r + 1) c)

/-- The grants for the next layer leave on the last two transfers, except in the last layer. -/
theorem extras (r : ℕ) :
    iprop(grant 0 (r + 1) c ∗ grant 1 (r + 1) c ∗ grant 2 (r + 1) c ∗ grant 3 (r + 1) c : sProp 𝕄) ⊢ iprop(extra 4 r c ∗ extra 5 r c ∗ keep r c) := by
  unfold extra keep
  iintro ⟨H0, H1, H2, H3⟩
  by_cases h : r < 2
  · simp only [if_pos h]
    isplitl [H1]; · iexact H1
    isplitl
    · isplitl [H0]; · iexact H0
      isplitl [H2]; · iexact H2
      iexact H3
    iempintro
  · simp only [if_neg h]
    isplitr; · iempintro
    isplitr; · iempintro
    isplitl [H0]; · iexact H0
    isplitl [H1]; · iexact H1
    isplitl [H2]; · iexact H2
    iexact H3

set_option maxHeartbeats 1000000 in
/-- The reduce-scatter of layer `r`: the device's rows of its own product, and the two sums that arrived for it. -/
theorem segB_rule (Q : PUnit → sProp 𝕄) (r : ℕ) (hr : r < 3) (n6 n7 n8 : Dev nD) (h6 : n6 = tgt 3 c) (h7 : n7 = tgt 4 c) (h8 : n8 = tgt 5 c)
    (k : Vec F S64x2048 .f32 → Vec F S1x64x2048 .bf16 → Vec F S1x64x2048 .bf16 → PR F) :
    iprop(CTX X Pt K ∗ ptAt c (Pt r c) ∗ anyAt c (rsS 0) ∗ anyAt c (rsS 2) ∗ anyAt c (rsS 3) ∗ grant 0 (r + 1) c ∗ grant 1 (r + 1) c ∗ grant 2 (r + 1) c
        ∗ grant 3 r (tgt 3 c) ∗ grant 4 r (tgt 4 c) ∗ grant 5 r (tgt 5 c)
        ∗ owesC c (6 * r + 3) ∗ tk 3 r c ∗ tk 4 r c ∗ tk 5 r c ∗ ps 3 r c ∗ ps 4 r c ∗ ps 5 r c)
      ⊢ iprop(((ptAt c (Pt r c) ∗ anyAt c (rsS 0) ∗ anyAt c (rsS 2) ∗ anyAt c (rsS 3) ∗ grant 4 (r + 1) c ∗ grant 5 (r + 1) c ∗ keep r c
          ∗ extra 4 r (src 4 c) ∗ extra 5 r (src 5 c)
          ∗ owesC c (6 * r + 6) ∗ ps 3 (r + 1) c ∗ ps 4 (r + 1) c ∗ ps 5 (r + 1) c)
          -∗ wpc c (k (rows (Pt r c) c) (up (Vx X Pt 4 r (prv c))) (up (Vx X Pt 5 r (nxt c)))) Q)
        -∗ wpc c (segB c n6 n7 n8 k) Q) := by
  unfold anyAt
  iintro ⟨#HC, Hp, ⟨%y0, Hd0⟩, ⟨%y2, Hd2⟩, ⟨%y3, Hd3⟩, Hg0, Hg1, Hg2, Hg3, Hg4, Hg5, Ho, Ht3, Ht4, Ht5, Hp3, Hp4, Hp5⟩ Hk
  iapply (ldPt_rule c Q (opp c) (off32_eq c)) $$ Hp
  iintro Hp
  iapply (ldRs_rule c Q 0 fullShare _) $$ Hd0
  iintro Hd0
  iapply (stRs_rule c Q 0 _) $$ Hd0
  iintro Hd0
  iapply (xfer_rule (Vx X Pt) K c Q 3 r hr n6 h6) $$ [Hd0 Hg3 Ho Ht3 Hp3]
  · isplitr; · iexact HC
    isplitl [Hd0]; · iexact Hd0
    isplitl [Hg3]; · iexact Hg3
    isplitr; · unfold extra; iempintro
    isplitl [Ho]; · iexact Ho
    isplitl [Ht3]; · iexact Ht3
    iexact Hp3
  iintro ⟨Hs3, Ho⟩
  iapply (ldPt_rule c Q (prv c) (off2_eq c)) $$ Hp
  iintro Hp
  iapply (ldRs_rule c Q 3 fullShare _) $$ Hd3
  iintro Hd3
  iapply (stRs_rule c Q 3 _) $$ Hd3
  iintro Hd3
  iapply (waitS_rule (Vx X Pt) K c Q 3 r hr) $$ [Ho Hs3]
  · isplitr; · iexact HC
    isplitl [Ho]; · iexact Ho
    iexact Hs3
  iintro ⟨Hs3, Hd0, Ho⟩
  iapply (waitR_rule (Vx X Pt) K c Q 3 r hr _ (by show 6 * r + 3 < 6 * r + 3 + 1; omega)) $$ [Ho Hs3]
  · isplitr; · iexact HC
    isplitl [Ho]; · iexact Ho
    iexact Hs3
  iintro ⟨Hp3, #Hr3, Hd1, Hx3, Ho⟩
  ihave Hd1 := (Entails.of_eq (land3 X Pt c r)) $$ Hd1
  iapply (ldRs_rule c Q 1 fullShare (R0 (Pt r (prv c)) (prv c))) $$ Hd1
  iintro Hd1
  iapply (ldPt_rule c Q (nxt c) (off31_eq c)) $$ Hp
  iintro Hp
  iapply (ldRs_rule c Q 2 fullShare _) $$ Hd2
  iintro Hd2
  iapply (stRs_rule c Q 2 _) $$ Hd2
  iintro Hd2
  ihave Hxs := (extras c r) $$ [Hg0 Hg1 Hg2 Hd1]
  · isplitl [Hg0]; · iexact Hg0
    isplitl [Hg1]; · iexact Hg1
    isplitl [Hg2]; · iexact Hg2
    unfold grant anyAt
    isplitl [Hd1]; · iexists _; iexact Hd1
    iexact Hr3
  icases Hxs with ⟨Hx4, Hx5, Hkeep⟩
  iapply (xfer_rule (Vx X Pt) K c Q 4 r hr n7 h7) $$ [Hd2 Hg4 Hx4 Ho Ht4 Hp4]
  · isplitr; · iexact HC
    isplitl [Hd2]; · iexact Hd2
    isplitl [Hg4]; · iexact Hg4
    isplitl [Hx4]; · iexact Hx4
    isplitl [Ho]; · iexact Ho
    isplitl [Ht4]; · iexact Ht4
    iexact Hp4
  iintro ⟨Hs4, Ho⟩
  iapply (xfer_rule (Vx X Pt) K c Q 5 r hr n8 h8) $$ [Hd3 Hg5 Hx5 Ho Ht5 Hp5]
  · isplitr; · iexact HC
    isplitl [Hd3]; · iexact Hd3
    isplitl [Hg5]; · iexact Hg5
    isplitl [Hx5]; · iexact Hx5
    isplitl [Ho]; · iexact Ho
    isplitl [Ht5]; · iexact Ht5
    iexact Hp5
  iintro ⟨Hs5, Ho⟩
  iapply (waitS_rule (Vx X Pt) K c Q 4 r hr) $$ [Ho Hs4]
  · isplitr; · iexact HC
    isplitl [Ho]; · iexact Ho
    iexact Hs4
  iintro ⟨Hs4, Hd2, Ho⟩
  iapply (waitR_rule (Vx X Pt) K c Q 4 r hr _ (by show 6 * r + 4 < 6 * r + 5 + 1; omega)) $$ [Ho Hs4]
  · isplitr; · iexact HC
    isplitl [Ho]; · iexact Ho
    iexact Hs4
  iintro ⟨Hp4, #Hr4, Hd4, Hx4, Ho⟩
  ihave Hd4 := (Entails.of_eq (land4 X Pt c r)) $$ Hd4
  iapply (waitS_rule (Vx X Pt) K c Q 5 r hr) $$ [Ho Hs5]
  · isplitr; · iexact HC
    isplitl [Ho]; · iexact Ho
    iexact Hs5
  iintro ⟨Hs5, Hd3, Ho⟩
  iapply (waitR_rule (Vx X Pt) K c Q 5 r hr _ (by show 6 * r + 5 < 6 * r + 5 + 1; omega)) $$ [Ho Hs5]
  · isplitr; · iexact HC
    isplitl [Ho]; · iexact Ho
    iexact Hs5
  iintro ⟨Hp5, #Hr5, Hd5, Hx5, Ho⟩
  ihave Hd5 := (Entails.of_eq (land5 X Pt c r)) $$ Hd5
  iapply (ldPt_rule c Q c (off1_eq c)) $$ Hp
  iintro Hp
  iapply (ldRs_rule c Q 4 fullShare (Vx X Pt 4 r (prv c))) $$ Hd4
  iintro Hd4
  iapply (ldRs_rule c Q 5 fullShare (Vx X Pt 5 r (nxt c))) $$ Hd5
  iintro Hd5
  iapply Hk
  isplitl [Hp]; · iexact Hp
  isplitl [Hd0]; · iexists _; iexact Hd0
  isplitl [Hd2]; · iexists _; iexact Hd2
  isplitl [Hd3]; · iexists _; iexact Hd3
  isplitl [Hd4]
  · unfold grant anyAt; isplitl [Hd4]; · iexists _; iexact Hd4
    iexact Hr4
  isplitl [Hd5]
  · unfold grant anyAt; isplitl [Hd5]; · iexists _; iexact Hd5
    iexact Hr5
  isplitl [Hkeep]; · iexact Hkeep
  isplitl [Hx4]; · iexact Hx4
  isplitl [Hx5]; · iexact Hx5
  isplitl [Ho]; · iexact Ho
  isplitl [Hp3]; · iexact Hp3
  isplitl [Hp4]; · iexact Hp4
  iexact Hp5

end Cert.KernelIdeal.Run

end
-- ==== Proof.Body.lean ====
/-
# The body, from its entry to its exit

The contents of every layer as functions of the launch contents, the entry handshake, the layers composed from their
segments, and the body's triple: from the scratch buffers and the ghost state of the launch to the result block, the
scratch buffers and the closed cells.
-/
module

public import proofs.«01_k».proof.Proof.Layer

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

/-! ## The contents of every layer -/

/-- The four tiles' product of a layer, with its weights at contents `a` and `b`, of the gathered activations. -/
def prodV (a : Vec F S2048x4096 .f32) (b : Vec F S4096x2048 .f32) (xg : Vec F S256x2048 .bf16) : Vec F S256x2048 .f32 :=
  prods xg ((wi0 (Memref.whole main_arg1)).view.read (Elt F) a) ((wi1 (Memref.whole main_arg1)).view.read (Elt F) a)
    ((wo0 (Memref.whole main_arg4)).view.read (Elt F) b) ((wo1 (Memref.whole main_arg4)).view.read (Elt F) b)

/-- The two sums that arrive at device `c`, of the four products: from the left, and from the right. -/
def inL (p : Dev nD → Vec F S256x2048 .f32) (c : Dev nD) : Vec F S64x2048 .bf16 := R2 (R0 (p (prv (prv c))) (prv (prv c))) (p (prv c)) (prv c)
def inR (p : Dev nD → Vec F S256x2048 .f32) (c : Dev nD) : Vec F S64x2048 .bf16 := R3 (p (nxt c)) (nxt c)
/-- A layer's sum on device `c`, rounded into slot 0; and as the last layer stores it. -/
def nextV (p : Dev nD → Vec F S256x2048 .f32) (c : Dev nD) : Vec F S64x2048 .bf16 :=
  dn (k0_pay14 (rows (p c) c) (up (inL p c)) (up (inR p c)))
def lastV (p : Dev nD → Vec F S256x2048 .f32) (c : Dev nD) : Vec F S64x2048 .f32 :=
  k0_pay1 (rows (p c) c) (up (inL p c)) (up (inR p c))

/-- The contents at launch: each device's block of the activations and its three pairs of weights. -/
structure Args (F : FTy → Type) [FloatOps F] where
  x : Dev nD → Vec F S64x2048 .f32
  a : ℕ → Dev nD → Vec F S2048x4096 .f32
  b : ℕ → Dev nD → Vec F S4096x2048 .f32

variable (I : Args F)

/-- Layer `r`'s input on each device, -/
def Xs : ℕ → Dev nD → Vec F S64x2048 .bf16
  | 0 => fun c => dn (k0_pay2 (I.x c))
  | r + 1 => nextV fun d => prodV (I.a r d) (I.b r d) (gather (Xs r))
/-- its product, -/
def Pts (r : ℕ) (d : Dev nD) : Vec F S256x2048 .f32 := prodV (I.a r d) (I.b r d) (gather (Xs I r))
/-- and the result. -/
def outV (c : Dev nD) : Vec F S64x2048 .f32 := lastV (Pts I 2) c

variable (K : Dev nD × CK → ℕ) (c : Dev nD)

abbrev VV : Fin 6 → ℕ → Dev nD → Vec F S64x2048 .bf16 := Vx (Xs I) (Pts I)
abbrev CT : sProp 𝕄 := ctx (VV I) K

/-! ## The layers -/

def tkA (r : ℕ) : sProp 𝕄 := iprop(tk 0 r c ∗ tk 1 r c ∗ tk 2 r c)
def tkB (r : ℕ) : sProp 𝕄 := iprop(tk 3 r c ∗ tk 4 r c ∗ tk 5 r c)
def psA (r : ℕ) : sProp 𝕄 := iprop(ps 0 r c ∗ ps 1 r c ∗ ps 2 r c)
def psB (r : ℕ) : sProp 𝕄 := iprop(ps 3 r c ∗ ps 4 r c ∗ ps 5 r c)
/-- The slots only the device itself writes. -/
def rsOwn : sProp 𝕄 := iprop(anyAt c (rsS 0) ∗ anyAt c (rsS 2) ∗ anyAt c (rsS 3))

/-- What device `c` holds as layer `r` starts: its input, the neighbours' grants, its own two, its slots and buffers. -/
def LS (r : ℕ) : sProp 𝕄 :=
  iprop(held c (agS 0) fullShare (Xs I r c) ∗ (grant 0 r (nxt c) ∗ grant 1 r (prv c) ∗ grant 2 r (nxt c) ∗ grant 3 r (nxt c)) ∗ (grant 4 r c ∗ grant 5 r c)
    ∗ rsOwn c ∗ owesC c (6 * r) ∗ psA c r ∗ psB c r ∗ (∃ f, xgAt c f) ∗ (∃ f, ptAt c f))
/-- And between the product and the reduce-scatter. -/
def MID (r : ℕ) : sProp 𝕄 :=
  iprop(anyAt c (agS 0) ∗ (grant 0 (r + 1) c ∗ grant 1 (r + 1) c ∗ grant 2 (r + 1) c) ∗ (grant 3 r (nxt c) ∗ grant 4 r (nxt c) ∗ grant 5 r (prv c))
    ∗ rsOwn c ∗ owesC c (6 * r + 3) ∗ psA c (r + 1) ∗ psB c r ∗ (∃ f, xgAt c f) ∗ ptAt c (Pts I r c))
/-- After the last layer. -/
def FIN : sProp 𝕄 :=
  iprop(anyAt c (agS 0) ∗ keep 2 c ∗ (grant 4 3 c ∗ grant 5 3 c)
    ∗ rsOwn c ∗ owesC c 18 ∗ psA c 3 ∗ psB c 3 ∗ (∃ f, xgAt c f) ∗ (∃ f, ptAt c f))

/-- All-gather and products. -/
theorem front_rule (Q : PUnit → sProp 𝕄) (r : ℕ) (hr : r < 3) (n3 n4 n5 : Dev nD) (h3 : n3 = tgt 0 c) (h4 : n4 = tgt 1 c) (h5 : n5 = tgt 2 c)
    (wi : Memref sig .tc .hbm S2048x4096 .f32) (wo : Memref sig .tc .hbm S4096x2048 .f32)
    (f : Buf (Elt F) (wi.view.loc (c : Thread nD τ))) (g : Buf (Elt F) (wo.view.loc (c : Thread nD τ)))
    (hp : prodOf c wi wo f g (gather (Xs I r)) = Pts I r c) (k : PR F) :
    iprop(CT I K ∗ LS I c r ∗ wfly c wi wo f g ∗ tkA c r)
      ⊢ iprop(((MID I c r ∗ wtAt c wi f ∗ wtAt c wo g ∗ wfree c) -∗ wpc c k Q)
        -∗ wpc c (segA c n3 n4 n5 fun xg => segP wi wo xg k) Q) := by
  unfold LS MID tkA psA
  iintro ⟨#HC, ⟨Hag, ⟨Hg0, Hg1, Hg2, Hg3⟩, ⟨Hg4, Hg5⟩, Hrs, Ho, ⟨Hp0, Hp1, Hp2⟩, HpB, Hxg, Hpt⟩, Hw, ⟨Ht0, Ht1, Ht2⟩⟩ Hk
  iapply (segA_rule (Xs I) (Pts I) K c Q r hr n3 n4 n5 h3 h4 h5) $$ [Hag Hg0 Hg1 Hg2 Hg4 Hg5 Ho Hp0 Hp1 Hp2 Hxg Ht0 Ht1 Ht2]
  · isplitr; · iexact HC
    isplitl [Hag]; · iexact Hag
    isplitl [Hg0]; · iexact Hg0
    isplitl [Hg1]; · iexact Hg1
    isplitl [Hg2]; · iexact Hg2
    isplitl [Hg5]; · iexact Hg5
    isplitl [Hg4]; · iexact Hg4
    isplitl [Ho]; · iexact Ho
    isplitl [Ht0]; · iexact Ht0
    isplitl [Ht1]; · iexact Ht1
    isplitl [Ht2]; · iexact Ht2
    isplitl [Hp0]; · iexact Hp0
    isplitl [Hp1]; · iexact Hp1
    isplitl [Hp2]; · iexact Hp2
    iexact Hxg
  iintro ⟨Hag, Hg0, Hg1, Hg2, Hg5, Hg4, Ho, Hp0, Hp1, Hp2, Hxg⟩
  iapply (segP_rule K c wi wo f g (VV I) Q) $$ [Hw Ho Hpt]
  · isplitr; · iexact HC
    isplitl [Hw]; · iexact Hw
    isplitl [Ho]; · iexact Ho
    iexact Hpt
  iintro ⟨Hi, Hwo, Hf, Ho, Hpt⟩
  rw [hp]
  iapply Hk
  isplitr [Hi Hwo Hf]
  · isplitl [Hag]; · iexact Hag
    isplitl [Hg0 Hg1 Hg2]
    · isplitl [Hg0]; · iexact Hg0
      isplitl [Hg1]; · iexact Hg1
      iexact Hg2
    isplitl [Hg3 Hg4 Hg5]
    · isplitl [Hg3]; · iexact Hg3
      isplitl [Hg4]; · iexact Hg4
      iexact Hg5
    isplitl [Hrs]; · iexact Hrs
    isplitl [Ho]; · iexact Ho
    isplitl [Hp0 Hp1 Hp2]
    · isplitl [Hp0]; · iexact Hp0
      isplitl [Hp1]; · iexact Hp1
      iexact Hp2
    isplitl [HpB]; · iexact HpB
    isplitl [Hxg]; · iexact Hxg
    iexact Hpt
  isplitl [Hi]; · iexact Hi
  isplitl [Hwo]; · iexact Hwo
  iexact Hf

/-- The reduce-scatter, before the use of what it left. -/
theorem mid_rule (Q : PUnit → sProp 𝕄) (r : ℕ) (hr : r < 3) (n6 n7 n8 : Dev nD) (h6 : n6 = tgt 3 c) (h7 : n7 = tgt 4 c) (h8 : n8 = tgt 5 c)
    (k : Vec F S64x2048 .f32 → Vec F S1x64x2048 .bf16 → Vec F S1x64x2048 .bf16 → PR F) :
    iprop(CT I K ∗ MID I c r ∗ tkB c r)
      ⊢ iprop(((anyAt c (agS 0) ∗ keep r c ∗ (extra 4 r (prv c) ∗ extra 5 r (nxt c)) ∗ (grant 4 (r + 1) c ∗ grant 5 (r + 1) c)
            ∗ rsOwn c ∗ owesC c (6 * r + 6) ∗ psA c (r + 1) ∗ psB c (r + 1) ∗ (∃ f, xgAt c f) ∗ (∃ f, ptAt c f))
          -∗ wpc c (k (rows (Pts I r c) c) (up (inL (Pts I r) c)) (up (inR (Pts I r) c))) Q)
        -∗ wpc c (segB c n6 n7 n8 k) Q) := by
  unfold MID tkB psB rsOwn
  iintro ⟨#HC, ⟨Hag, ⟨Hg0, Hg1, Hg2⟩, ⟨Hg3, Hg4, Hg5⟩, ⟨Hd0, Hd2, Hd3⟩, Ho, HpA, ⟨Hp3, Hp4, Hp5⟩, Hxg, Hpt⟩, ⟨Ht3, Ht4, Ht5⟩⟩ Hk
  iapply (segB_rule (Xs I) (Pts I) K c Q r hr n6 n7 n8 h6 h7 h8) $$ [Hpt Hd0 Hd2 Hd3 Hg0 Hg1 Hg2 Hg3 Hg4 Hg5 Ho Ht3 Ht4 Ht5 Hp3 Hp4 Hp5]
  · isplitr; · iexact HC
    isplitl [Hpt]; · iexact Hpt
    isplitl [Hd0]; · iexact Hd0
    isplitl [Hd2]; · iexact Hd2
    isplitl [Hd3]; · iexact Hd3
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Ho]; · iexact Ho
    isplitl [Ht3]; · iexact Ht3
    isplitl [Ht4]; · iexact Ht4
    isplitl [Ht5]; · iexact Ht5
    isplitl [Hp3]; · iexact Hp3
    isplitl [Hp4]; · iexact Hp4
    iexact Hp5
  iintro ⟨Hpt, Hd0, Hd2, Hd3, Hg4, Hg5, Hkeep, Hx4, Hx5, Ho, Hp3, Hp4, Hp5⟩
  iapply Hk
  isplitl [Hag]; · iexact Hag
  isplitl [Hkeep]; · iexact Hkeep
  isplitl [Hx4 Hx5]
  · isplitl [Hx4]; · iexact Hx4
    iexact Hx5
  isplitl [Hg4 Hg5]
  · isplitl [Hg4]; · iexact Hg4
    iexact Hg5
  isplitl [Hd0 Hd2 Hd3]
  · isplitl [Hd0]; · iexact Hd0
    isplitl [Hd2]; · iexact Hd2
    iexact Hd3
  isplitl [Ho]; · iexact Ho
  isplitl [HpA]; · iexact HpA
  isplitl [Hp3 Hp4 Hp5]
  · isplitl [Hp3]; · iexact Hp3
    isplitl [Hp4]; · iexact Hp4
    iexact Hp5
  isplitl [Hxg]; · iexact Hxg
  iexists _; iexact Hpt

/-- What rode on the last two transfers of a layer before the last: the neighbours' grants for the next layer. -/
theorem extra45 (r : ℕ) (hr : r < 2) : iprop(extra 4 r (prv c) ∗ extra 5 r (nxt c) : sProp 𝕄)
    ⊢ iprop(grant 0 (r + 1) (nxt c) ∗ grant 1 (r + 1) (prv c) ∗ grant 2 (r + 1) (nxt c) ∗ grant 3 (r + 1) (nxt c)) := by
  unfold extra
  simp only [if_pos hr]
  iintro ⟨H1, H0, H2, H3⟩
  isplitl [H0]; · iexact H0
  isplitl [H1]; · iexact H1
  isplitl [H2]; · iexact H2
  iexact H3

/-- Reduce-scatter and the next layer's input. -/
theorem back_rule (Q : PUnit → sProp 𝕄) (r : ℕ) (hr : r < 2) (n6 n7 n8 : Dev nD) (h6 : n6 = tgt 3 c) (h7 : n7 = tgt 4 c) (h8 : n8 = tgt 5 c) (k : PR F) :
    iprop(CT I K ∗ MID I c r ∗ tkB c r) ⊢ iprop((LS I c (r + 1) -∗ wpc c k Q) -∗ wpc c (segB c n6 n7 n8 (segNext k)) Q) := by
  iintro ⟨#HC, Hm, Ht⟩ Hk
  iapply (mid_rule I K c Q r (by omega) n6 n7 n8 h6 h7 h8) $$ [Hm Ht]
  · isplitr; · iexact HC
    isplitl [Hm]; · iexact Hm
    iexact Ht
  unfold anyAt
  iintro ⟨⟨%y, Hag⟩, -, Hx, Hg, Hrs, Ho, HpA, HpB, Hxg, Hpt⟩
  ihave Hx := (extra45 c r hr) $$ Hx
  iapply (ldAg_rule c Q 0 fullShare y) $$ Hag
  iintro Hag
  iapply (stAg_rule c Q 0 y) $$ Hag
  iintro Hag
  iapply Hk
  unfold LS
  isplitl [Hag]; · iexact Hag
  isplitl [Hx]; · iexact Hx
  isplitl [Hg]; · iexact Hg
  isplitl [Hrs]; · iexact Hrs
  isplitl [Ho]; · iexact Ho
  isplitl [HpA]; · iexact HpA
  isplitl [HpB]; · iexact HpB
  isplitl [Hxg]; · iexact Hxg
  iexact Hpt

/-- The last layer's, with the result stored. -/
theorem last_rule (Q : PUnit → sProp 𝕄) (n6 n7 n8 : Dev nD) (h6 : n6 = tgt 3 c) (h7 : n7 = tgt 4 c) (h8 : n8 = tgt 5 c)
    (o : Memref sig .tc .vmem S64x2048 .f32) (g : Buf (Elt F) (o.view.loc (c : Thread nD τ))) :
    iprop(CT I K ∗ MID I c 2 ∗ tkB c 2 ∗ (o.view.loc (c : Thread nD τ) ↦{fullShare} g))
      ⊢ iprop(((FIN c ∗ ∃ g' : Buf (Elt F) (o.view.loc (c : Thread nD τ)), ⌜o.view.read (Elt F) g' = outV I c⌝ ∗ (o.view.loc (c : Thread nD τ) ↦{fullShare} g'))
          -∗ wpc c (.ret ⟨⟩) Q) -∗ wpc c (segB c n6 n7 n8 (segOut o)) Q) := by
  iintro ⟨#HC, Hm, Ht, Hout⟩ Hk
  iapply (mid_rule I K c Q 2 (by omega) n6 n7 n8 h6 h7 h8) $$ [Hm Ht]
  · isplitr; · iexact HC
    isplitl [Hm]; · iexact Hm
    iexact Ht
  iintro ⟨Hag, Hkeep, -, Hg, Hrs, Ho, HpA, HpB, Hxg, Hpt⟩
  iapply (ldBlk_rule c Q o) $$ Hout
  iintro Hout
  iapply (stBlk_rule c Q o) $$ Hout
  iintro Hout
  iapply Hk
  isplitr [Hout]
  · unfold FIN
    isplitl [Hag]; · iexact Hag
    isplitl [Hkeep]; · iexact Hkeep
    isplitl [Hg]; · iexact Hg
    isplitl [Hrs]; · iexact Hrs
    isplitl [Ho]; · iexact Ho
    isplitl [HpA]; · iexact HpA
    isplitl [HpB]; · iexact HpB
    isplitl [Hxg]; · iexact Hxg
    iexact Hpt
  iexact Hout

/-! ## The entry handshake -/

/-- Every cell of the schedule has reached its first round. -/
def marks : sProp 𝕄 := bigSep Finset.univ fun ck : Dev nD × CK => reached ER (kcell ck) 0
instance : Persistent (marks (F := F)) := by unfold marks; infer_instance
theorem marks_at (ck : Dev nD × CK) : (marks : sProp 𝕄) ⊢ reached ER (kcell ck) 0 := bigSep_elim (Finset.mem_univ ck)

def agAll : sProp 𝕄 := iprop(anyAt c (agS 0) ∗ anyAt c (agS 1) ∗ anyAt c (agS 2) ∗ anyAt c (agS 3))
def rsAll : sProp 𝕄 := iprop(anyAt c (rsS 0) ∗ anyAt c (rsS 1) ∗ anyAt c (rsS 2) ∗ anyAt c (rsS 3) ∗ anyAt c (rsS 4) ∗ anyAt c (rsS 5))

/-- The barrier's two duties the device pays, and the credit it waits with. -/
def tkBar : sProp 𝕄 :=
  iprop(dutyTok ER (barCell (prv c)) 0 true ∗ dutyTok ER (barCell (nxt c)) 0 false ∗ cred (tallyAt (barCell c) 0 2) ∗ atPos ER (barCell c) 0 ∅ 0)

set_option maxHeartbeats 1000000 in
theorem start_rule (Q : PUnit → sProp 𝕄) (n1 n2 : Dev nD) (h1 : n1 = prv c) (h2 : n2 = nxt c)
    (a0 : Memref sig .tc .vmem S64x2048 .f32) (g : Buf (Elt F) (a0.view.loc (c : Thread nD τ))) (hg : a0.view.read (Elt F) g = I.x c) (k : PR F) :
    iprop(CT I K ∗ marks ∗ (∃ W, owes (c : Thread nD τ) (O₀ c) W) ∗ tkBar c ∗ agAll c ∗ rsAll c ∗ psA c 0 ∗ psB c 0 ∗ (∃ f, xgAt c f) ∗ (∃ f, ptAt c f)
        ∗ (a0.view.loc (c : Thread nD τ) ↦{fullShare} g))
      ⊢ iprop(((LS I c 0 ∗ atPos ER (barCell c) 1 ∅ 0 ∗ (a0.view.loc (c : Thread nD τ) ↦{fullShare} g)) -∗ wpc c k Q)
        -∗ wpc c (segStart a0 n1 n2 k) Q) := by
  subst h1 h2
  unfold segStart CT ctx tkBar agAll rsAll
  simp only [semSignalWord, semWaitWord, Prog.lift, Prog.bind_op, Prog.bind_ret, Prog.pure_eq_ret]
  iintro ⟨⟨#HI, #Hlev⟩, #HM, ⟨%W, HO⟩, ⟨HtP, HtN, HcB, HaB⟩, ⟨Ha0, Ha1, Ha2, Ha3⟩, ⟨Hd0, Hd1, Hd2, Hd3, Hd4, Hd5⟩, HpA, HpB, Hxg, Hpt, Hx⟩ Hk
  ihave #HIp := (invs_at (VV I) K (prv c, none)) $$ HI
  ihave #HIn := (invs_at (VV I) K (nxt c, none)) $$ HI
  ihave #HIc := (invs_at (VV I) K (c, none)) $$ HI
  ihave #HMp := (marks_at (F := F) (prv c, none)) $$ HM
  ihave #HMn := (marks_at (F := F) (nxt c, none)) $$ HM
  iapply (Rounds.wp_signal 𝒱₀ ER (Rd (VV I)) (c : Thread nD τ) none (dst := (prv c : Thread nD τ)) (κ := K (prv c, none)) (r := 0)
      (d := true) (by rw [duties_bar]; exact Finset.mem_univ _) ((amount_bar (VV I) (prv c) 0 true).trans (by decide)) 0 (rem c 0 + tallyAt (barCell (nxt c)) 0 1) rfl)
    $$ [HO HtP Ha1 Ha3 Hd1]
  · isplitr; · iexact HIp
    isplitl [HO]; · iexact HO
    isplitl [HtP]; · iexact HtP
    isplitl [Ha1 Ha3 Hd1]
    · rw [payload_bar]; unfold barPay; rw [if_pos rfl, nxt_prv]; unfold grant
      isplitl [Ha1]
      · isplitl [Ha1]; · iexact Ha1
        iapply (marks_at (F := F) (c, some (true, 0))); iexact HM
      isplitl [Ha3]
      · isplitl [Ha3]; · iexact Ha3
        iapply (marks_at (F := F) (c, some (true, 2))); iexact HM
      isplitl [Hd1]; · iexact Hd1
      iapply (marks_at (F := F) (c, some (true, 3))); iexact HM
    iexact HMp
  iintro HO
  iapply (Rounds.wp_signal 𝒱₀ ER (Rd (VV I)) (c : Thread nD τ) none (dst := (nxt c : Thread nD τ)) (κ := K (nxt c, none)) (r := 0)
      (d := false) (by rw [duties_bar]; exact Finset.mem_univ _) ((amount_bar (VV I) (nxt c) 0 false).trans (by decide)) 0 (rem c 0) rfl)
    $$ [HO HtN Ha2]
  · isplitr; · iexact HIn
    isplitl [HO]; · iexact HO
    isplitl [HtN]; · iexact HtN
    isplitl [Ha2]
    · rw [payload_bar]; unfold barPay; rw [if_neg Bool.false_ne_true, prv_nxt]; unfold grant
      isplitl [Ha2]; · iexact Ha2
      iapply (marks_at (F := F) (c, some (true, 1))); iexact HM
    iexact HMn
  iintro HO
  iapply (Rounds.wp_wait_rest_token 𝒱₀ ER (Rd (VV I)) (c : Thread nD τ) none (κ := K (c, none))
      (wpE_semWait_eq 𝒱₀ (c : Thread nD τ) none Set.univ) (Set.mem_univ _) 0 (O := rem c 0) (W := W) (R := 0) (m := 0) (T := ∅)
      (by rw [expect_bar]; decide)) $$ [HcB HO HaB]
  · isplitr; · iexact HIc
    isplitl [HcB]; · iexact HcB
    isplitl [HO]; · iexact HO
    isplitr; · iapply (mayWait_rem c (.reg barS) (u := 0) (by decide) (by rw [show lv _ 0 = 1 from lv_bar c 0]; decide)); iexact Hlev
    iexact HaB
  iintro ⟨HO, HaB, -, Hpay⟩
  ihave Hp := (Entails.of_eq (rest_bar (VV I) c)) $$ Hpay
  unfold barPay
  rw [if_pos rfl, if_neg Bool.false_ne_true]
  icases Hp with ⟨Hg1, Hg0, Hg2, Hg3⟩
  iapply (ldBlk_rule c Q a0) $$ Hx
  iintro Hx
  rw [hg]
  unfold anyAt
  icases Ha0 with ⟨%y, Ha0⟩
  iapply (ldAg_rule c Q 0 fullShare y) $$ Ha0
  iintro Ha0
  iapply (stAg_rule c Q 0 y) $$ Ha0
  iintro Ha0
  iapply Hk
  isplitr [HaB Hx]
  · unfold LS owesC rsOwn anyAt
    isplitl [Ha0]; · iexact Ha0
    isplitl [Hg0 Hg1 Hg2 Hg3]
    · isplitl [Hg0]; · iexact Hg0
      isplitl [Hg1]; · iexact Hg1
      isplitl [Hg2]; · iexact Hg2
      iexact Hg3
    isplitl [Hd4 Hd5]
    · unfold grant anyAt
      isplitl [Hd4]
      · isplitl [Hd4]; · iexact Hd4
        iapply (marks_at (F := F) (c, some (true, 4))); iexact HM
      isplitl [Hd5]; · iexact Hd5
      iapply (marks_at (F := F) (c, some (true, 5))); iexact HM
    isplitl [Hd0 Hd2 Hd3]
    · isplitl [Hd0]; · iexact Hd0
      isplitl [Hd2]; · iexact Hd2
      iexact Hd3
    isplitl [HO]; · iexists _; iexact HO
    isplitl [HpA]; · iexact HpA
    isplitl [HpB]; · iexact HpB
    isplitl [Hxg]; · iexact Hxg
    iexact Hpt
  isplitl [HaB]; · iexact HaB
  iexact Hx

/-! ## The whole chain -/

/-- The weights, at their launch contents. -/
def wts : sProp 𝕄 :=
  iprop((wtAt c (Memref.whole main_arg1) (I.a 0 c) ∗ wtAt c (Memref.whole main_arg4) (I.b 0 c))
    ∗ (wtAt c (Memref.whole main_arg2) (I.a 1 c) ∗ wtAt c (Memref.whole main_arg5) (I.b 1 c))
    ∗ (wtAt c (Memref.whole main_arg3) (I.a 2 c) ∗ wtAt c (Memref.whole main_arg6) (I.b 2 c)))

/-- Every layer's tokens. -/
def tkAll : sProp 𝕄 := iprop((tkA c 0 ∗ tkB c 0) ∗ (tkA c 1 ∗ tkB c 1) ∗ (tkA c 2 ∗ tkB c 2))

set_option maxHeartbeats 2000000 in
theorem chain_rule (Q : PUnit → sProp 𝕄) (a0 o : Memref sig .tc .vmem S64x2048 .f32)
    (g : Buf (Elt F) (a0.view.loc (c : Thread nD τ))) (hg : a0.view.read (Elt F) g = I.x c) (y : Buf (Elt F) (o.view.loc (c : Thread nD τ))) :
    iprop(CT I K ∗ marks ∗ (∃ W, owes (c : Thread nD τ) (O₀ c) W) ∗ tkBar c ∗ tkAll c ∗ agAll c ∗ rsAll c ∗ psA c 0 ∗ psB c 0 ∗ (∃ f, xgAt c f) ∗ (∃ f, ptAt c f)
        ∗ wfree c ∗ wts I c ∗ (a0.view.loc (c : Thread nD τ) ↦{fullShare} g) ∗ (o.view.loc (c : Thread nD τ) ↦{fullShare} y))
      ⊢ iprop(((FIN c ∗ atPos ER (barCell c) 1 ∅ 0 ∗ wfree c ∗ wts I c ∗ (a0.view.loc (c : Thread nD τ) ↦{fullShare} g)
            ∗ ∃ g' : Buf (Elt F) (o.view.loc (c : Thread nD τ)), ⌜o.view.read (Elt F) g' = outV I c⌝ ∗ (o.view.loc (c : Thread nD τ) ↦{fullShare} g'))
          -∗ wpc c (.ret ⟨⟩) Q) -∗ wpc c (segs a0 o c (devs c)) Q) := by
  rw [devs_eq]
  unfold tkAll wts
  iintro ⟨#HC, #HM, HO, HtB, ⟨⟨HtA0, HtB0⟩, ⟨HtA1, HtB1⟩, HtA2, HtB2⟩, Hag, Hrs, HpA, HpB, Hxg, Hpt, Hf, ⟨⟨H1, H4⟩, ⟨H2, H5⟩, H3, H6⟩, Hx, Hout⟩ Hk
  iapply (start_rule I K c Q _ _ rfl rfl a0 g hg) $$ [HO HtB Hag Hrs HpA HpB Hxg Hpt Hx]
  · isplitr; · iexact HC
    isplitr; · iexact HM
    isplitl [HO]; · iexact HO
    isplitl [HtB]; · iexact HtB
    isplitl [Hag]; · iexact Hag
    isplitl [Hrs]; · iexact Hrs
    isplitl [HpA]; · iexact HpA
    isplitl [HpB]; · iexact HpB
    isplitl [Hxg]; · iexact Hxg
    isplitl [Hpt]; · iexact Hpt
    iexact Hx
  iintro ⟨HL, HaB, Hx⟩
  iapply (segPre_rule c (Memref.whole main_arg1) (Memref.whole main_arg4) (I.a 0 c) (I.b 0 c) Q) $$ [H1 H4 Hf]
  · isplitl [H1]; · iexact H1
    isplitl [H4]; · iexact H4
    iexact Hf
  iintro Hw
  iapply (front_rule I K c Q 0 (by decide) _ _ _ rfl rfl rfl (Memref.whole main_arg1) (Memref.whole main_arg4) (I.a 0 c) (I.b 0 c) rfl) $$ [HL Hw HtA0]
  · isplitr; · iexact HC
    isplitl [HL]; · iexact HL
    isplitl [Hw]; · iexact Hw
    iexact HtA0
  iintro ⟨Hm, H1, H4, Hf⟩
  iapply (segPre_rule c (Memref.whole main_arg2) (Memref.whole main_arg5) (I.a 1 c) (I.b 1 c) Q) $$ [H2 H5 Hf]
  · isplitl [H2]; · iexact H2
    isplitl [H5]; · iexact H5
    iexact Hf
  iintro Hw
  iapply (back_rule I K c Q 0 (by decide) _ _ _ rfl rfl rfl) $$ [Hm HtB0]
  · isplitr; · iexact HC
    isplitl [Hm]; · iexact Hm
    iexact HtB0
  iintro HL
  iapply (front_rule I K c Q 1 (by decide) _ _ _ rfl rfl rfl (Memref.whole main_arg2) (Memref.whole main_arg5) (I.a 1 c) (I.b 1 c) rfl) $$ [HL Hw HtA1]
  · isplitr; · iexact HC
    isplitl [HL]; · iexact HL
    isplitl [Hw]; · iexact Hw
    iexact HtA1
  iintro ⟨Hm, H2, H5, Hf⟩
  iapply (segPre_rule c (Memref.whole main_arg3) (Memref.whole main_arg6) (I.a 2 c) (I.b 2 c) Q) $$ [H3 H6 Hf]
  · isplitl [H3]; · iexact H3
    isplitl [H6]; · iexact H6
    iexact Hf
  iintro Hw
  iapply (back_rule I K c Q 1 (by decide) _ _ _ rfl rfl rfl) $$ [Hm HtB1]
  · isplitr; · iexact HC
    isplitl [Hm]; · iexact Hm
    iexact HtB1
  iintro HL
  iapply (front_rule I K c Q 2 (by decide) _ _ _ rfl rfl rfl (Memref.whole main_arg3) (Memref.whole main_arg6) (I.a 2 c) (I.b 2 c) rfl) $$ [HL Hw HtA2]
  · isplitr; · iexact HC
    isplitl [HL]; · iexact HL
    isplitl [Hw]; · iexact Hw
    iexact HtA2
  iintro ⟨Hm, H3, H6, Hf⟩
  iapply (last_rule I K c Q _ _ _ rfl rfl rfl o y) $$ [Hm HtB2 Hout]
  · isplitr; · iexact HC
    isplitl [Hm]; · iexact Hm
    isplitl [HtB2]; · iexact HtB2
    iexact Hout
  iintro ⟨HF, Hout⟩
  iapply Hk
  isplitl [HF]; · iexact HF
  isplitl [HaB]; · iexact HaB
  isplitl [Hf]; · iexact Hf
  isplitl [H1 H4 H2 H5 H3 H6]
  · isplitl [H1 H4]
    · isplitl [H1]; · iexact H1
      iexact H4
    isplitl [H2 H5]
    · isplitl [H2]; · iexact H2
      iexact H5
    isplitl [H3]; · iexact H3
    iexact H6
  isplitl [Hx]; · iexact Hx
  iexact Hout

end Cert.KernelIdeal.Run

end
-- ==== Proof.Exit.lean ====
/-
# Slots and exit

The scratch buffers taken apart into their slots and put together again, the cells closed at the end, and the body from
whole scratch buffers to whole scratch buffers.
-/
module

public import proofs.«01_k».proof.Proof.Body
public import Idealize.ShloMosaic.Lib.Ring

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (c : Dev nD)

/-! ## Slots of a buffer -/

/-- The elements of a slot of the memref. -/
abbrev slotSet {s : Shape} {e : EltTy} (M : Memref sig .tc .vmem s e) (r : Rect s) : Finset M.view.ty.Idx := (M.view.slice r).set

section Slots
variable {B : Type} [Fintype B] [DecidableEq B] {s S' : Shape} {e : EltTy} (M : Memref sig .tc .vmem s e) (r : B → Rect s)
  (hr : ∀ b a, (r b).stride a = 1) (hq : ∀ b, (r b).shape.Squeezes S')
  (hd : ∀ b b', b ≠ b' → Disjoint (slotSet M (r b)) (slotSet M (r b')))
  (hc : Finset.univ.biUnion (fun b => slotSet M (r b)) = Finset.univ)

theorem slot_any (b : B) (f : Buf (Elt F) (M.view.loc (c : Thread nD τ))) :
    (M.view.loc (c : Thread nD τ) ↦[slotSet M (r b)]{fullShare} f : sProp 𝕄) ⊢ anyAt c ((M.slice (r b) (hr b)).squeeze S' (hq b)) := by
  unfold anyAt held
  iintro H
  iexists ((M.slice (r b) (hr b)).squeeze S' (hq b)).view.read (Elt F) f
  iapply (pointsTo_rep_entails (c : Thread nD τ) ((M.slice (r b) (hr b)).squeeze S' (hq b)) f fullShare)
  rw [set_slot M (r b) (hr b) (hq b)]
  iexact H

theorem any_slot (b : B) : (anyAt c ((M.slice (r b) (hr b)).squeeze S' (hq b)) : sProp 𝕄)
    ⊢ iprop(∃ f : Buf (Elt F) (M.view.loc (c : Thread nD τ)), M.view.loc (c : Thread nD τ) ↦[slotSet M (r b)]{fullShare} f) := by
  unfold anyAt held
  rw [set_slot M (r b) (hr b) (hq b)]
  iintro ⟨%X, H⟩
  iexists _
  iexact H

include hd hc in
theorem slots_split :
    iprop(∃ f : Buf (Elt F) (M.view.loc (c : Thread nD τ)), M.view.loc (c : Thread nD τ) ↦{fullShare} f)
      ⊢ (bigSep Finset.univ fun b => anyAt c ((M.slice (r b) (hr b)).squeeze S' (hq b)) : sProp 𝕄) := by
  have h (f : Buf (Elt F) (M.view.loc (c : Thread nD τ))) : (M.view.loc (c : Thread nD τ) ↦{fullShare} f : sProp 𝕄)
      ⊢ (bigSep Finset.univ fun b => anyAt c ((M.slice (r b) (hr b)).squeeze S' (hq b)) : sProp 𝕄) :=
    (Entails.of_eq (Ring.pointsTo_blocks (ℓ := M.view.loc (c : Thread nD τ)) (fun b => slotSet M (r b)) hd hc f)).trans
      (bigSep_mono fun b _ => slot_any c M r hr hq b f)
  iintro ⟨%f, H⟩
  iapply (h f)
  iexact H

include hd hc in
theorem slots_join :
    (bigSep Finset.univ fun b => anyAt c ((M.slice (r b) (hr b)).squeeze S' (hq b)) : sProp 𝕄)
      ⊢ iprop(∃ f : Buf (Elt F) (M.view.loc (c : Thread nD τ)), M.view.loc (c : Thread nD τ) ↦{fullShare} f) := by
  exact (bigSep_mono fun b _ => any_slot c M r hr hq b).trans
    (Ring.pointsTo_blocks_join_exists (ℓ := M.view.loc (c : Thread nD τ)) (fun b => slotSet M (r b)) hd hc (M.view.rep fun _ => Classical.choice inferInstance))

end Slots

theorem ag_disjoint (b b' : Fin 4) (h : b ≠ b') : Disjoint (slotSet agM (agR b)) (slotSet agM (agR b')) := by
  unfold slotSet
  rw [View.set_slice_whole, View.set_slice_whole]
  exact Ring.lead_disjoint (s := S4x64x2048) 0 1 (fun i => ![i.val, 0, 0]) S1x64x2048.size inb_ag (by decide) (by decide) b b' h
theorem ag_cover : Finset.univ.biUnion (fun b : Fin 4 => slotSet agM (agR b)) = Finset.univ := by
  refine (Finset.biUnion_congr rfl fun b _ => View.set_slice_whole _ _).trans ?_
  exact Ring.lead_cover (s := S4x64x2048) 0 1 (fun i => ![i.val, 0, 0]) S1x64x2048.size inb_ag (by decide) (by decide) (by decide) (by decide) (by decide)
theorem rs_disjoint (b b' : Fin 6) (h : b ≠ b') : Disjoint (slotSet rsM (rsR b)) (slotSet rsM (rsR b')) := by
  unfold slotSet
  rw [View.set_slice_whole, View.set_slice_whole]
  exact Ring.lead_disjoint (s := S6x64x2048) 0 1 (fun i => ![i.val, 0, 0]) S1x64x2048.size inb_rs (by decide) (by decide) b b' h
theorem rs_cover : Finset.univ.biUnion (fun b : Fin 6 => slotSet rsM (rsR b)) = Finset.univ := by
  refine (Finset.biUnion_congr rfl fun b _ => View.set_slice_whole _ _).trans ?_
  exact Ring.lead_cover (s := S6x64x2048) 0 1 (fun i => ![i.val, 0, 0]) S1x64x2048.size inb_rs (by decide) (by decide) (by decide) (by decide) (by decide)
theorem ws_disjoint (b b' : Fin 2) (h : b ≠ b') : Disjoint (slotSet wsM (wsR b)) (slotSet wsM (wsR b')) := by
  unfold slotSet
  rw [View.set_slice_whole, View.set_slice_whole]
  exact Ring.lead_disjoint (s := S2x2048x2048) 0 1 (fun i => ![i.val, 0, 0]) S1x2048x2048.size inb_ws (by decide) (by decide) b b' h
theorem ws_cover : Finset.univ.biUnion (fun b : Fin 2 => slotSet wsM (wsR b)) = Finset.univ := by
  refine (Finset.biUnion_congr rfl fun b _ => View.set_slice_whole _ _).trans ?_
  exact Ring.lead_cover (s := S2x2048x2048) 0 1 (fun i => ![i.val, 0, 0]) S1x2048x2048.size inb_ws (by decide) (by decide) (by decide) (by decide) (by decide)

theorem ag_all : (bigSep Finset.univ fun i : Fin 4 => anyAt c (agS i) : sProp 𝕄) = agAll c := by
  rw [bigSep_univ_eq_bigSepL [0, 1, 2, 3] (by decide) (by decide)]; rfl
theorem rs_all : (bigSep Finset.univ fun i : Fin 6 => anyAt c (rsS i) : sProp 𝕄) = rsAll c := by
  rw [bigSep_univ_eq_bigSepL [0, 1, 2, 3, 4, 5] (by decide) (by decide)]; rfl
theorem ws_all : (bigSep Finset.univ fun i : Fin 2 => anyAt c (wsS i) : sProp 𝕄) = iprop(anyAt c (wsS 0) ∗ anyAt c (wsS 1)) := by
  rw [bigSep_univ_eq_bigSepL [0, 1] (by decide) (by decide)]; rfl

/-- A scratch buffer at some contents. -/
abbrev some0 {sp : Space} {s : Shape} {e : EltTy} (M : Memref sig .tc sp s e) : sProp 𝕄 :=
  iprop(∃ f : Buf (Elt F) (M.view.loc (c : Thread nD τ)), M.view.loc (c : Thread nD τ) ↦{fullShare} f)

theorem ag_split : (some0 c agM : sProp 𝕄) ⊢ agAll c :=
  (slots_split c agM agR (fun _ _ => rfl) (fun _ => squeezes_S1x64x2048_S64x2048) ag_disjoint ag_cover).trans (Entails.of_eq (ag_all c))
theorem ag_join : (agAll c : sProp 𝕄) ⊢ some0 c agM :=
  (Entails.of_eq (ag_all c).symm).trans (slots_join c agM agR (fun _ _ => rfl) (fun _ => squeezes_S1x64x2048_S64x2048) ag_disjoint ag_cover)
theorem rs_split : (some0 c rsM : sProp 𝕄) ⊢ rsAll c :=
  (slots_split c rsM rsR (fun _ _ => rfl) (fun _ => squeezes_S1x64x2048_S64x2048) rs_disjoint rs_cover).trans (Entails.of_eq (rs_all c))
theorem rs_join : (rsAll c : sProp 𝕄) ⊢ some0 c rsM :=
  (Entails.of_eq (rs_all c).symm).trans (slots_join c rsM rsR (fun _ _ => rfl) (fun _ => squeezes_S1x64x2048_S64x2048) rs_disjoint rs_cover)
theorem ws_split : (some0 c wsM : sProp 𝕄) ⊢ iprop(anyAt c (wsS 0) ∗ anyAt c (wsS 1)) :=
  (slots_split c wsM wsR (fun _ _ => rfl) (fun _ => squeezes_S1x2048x2048_S2048x2048) ws_disjoint ws_cover).trans (Entails.of_eq (ws_all c))
theorem ws_join : iprop(anyAt c (wsS 0) ∗ anyAt c (wsS 1) : sProp 𝕄) ⊢ some0 c wsM :=
  (Entails.of_eq (ws_all c).symm).trans (slots_join c wsM wsR (fun _ _ => rfl) (fun _ => squeezes_S1x2048x2048_S2048x2048) ws_disjoint ws_cover)

/-! ## The cells closed -/

variable (V : Fin 6 → ℕ → Dev nD → Vec F S64x2048 .bf16) (I : Args F) (K : Dev nD × CK → ℕ)

/-- Both cells of transfer `j` at zero. -/
def zero (j : Fin 6) : sProp 𝕄 := iprop(semVal (sendCell c j) 0 ∗ semVal (recvCell c j) 0)

theorem close_rule (j : Fin 6) : iprop(ctx V K ∗ ps j 3 c) ⊢ (|={Set.univ}=> zero c j : sProp 𝕄) := by
  unfold ctx ps zero
  iintro ⟨⟨#HI, -⟩, Hs, Hr, -⟩
  ihave #HIs := (invs_at V K (c, some (false, j))) $$ HI
  ihave #HIr := (invs_at V K (c, some (true, j))) $$ HI
  imod (Rounds.cell_close ER (Rd V) (κ := K (c, some (false, j))) (Set.mem_univ _) (fun h => h) (duties_later V _)) $$ [Hs] with Hs
  · isplitr; · iexact HIs
    iexact Hs
  imod (Rounds.cell_close ER (Rd V) (κ := K (c, some (true, j))) (Set.mem_univ _) (fun h => h) (duties_later V _)) $$ [Hr] with Hr
  · isplitr; · iexact HIr
    iexact Hr
  imodintro
  isplitl [Hs]; · iexact Hs
  iexact Hr

theorem closeBar_rule : iprop(ctx V K ∗ atPos ER (barCell c) 1 ∅ 0) ⊢ (|={Set.univ}=> semVal (barCell c) 0 : sProp 𝕄) := by
  unfold ctx
  iintro ⟨⟨#HI, -⟩, Hs⟩
  ihave #HIs := (invs_at V K (c, none)) $$ HI
  iapply (Rounds.cell_close ER (Rd V) (κ := K (c, none)) (Set.mem_univ _) (fun h => h) (duties_bar_later V c))
  isplitr; · iexact HIs
  iexact Hs

/-- Every cell of the device at zero. -/
def zeros : sProp 𝕄 :=
  iprop((zero c 0 ∗ zero c 1 ∗ zero c 2) ∗ (zero c 3 ∗ zero c 4 ∗ zero c 5) ∗ (wsem c 0 ∗ wsem c 1) ∗ semVal (barCell c) 0)

/-- The scratch buffers. -/
def scr : sProp 𝕄 := iprop(some0 c xgM ∗ some0 c ptM ∗ some0 c agM ∗ some0 c rsM ∗ some0 c wsM)

theorem exit_rule :
    iprop(CT I K ∗ FIN c ∗ atPos ER (barCell c) 1 ∅ 0 ∗ wfree c)
      ⊢ (|={Set.univ}=> iprop(scr c ∗ zeros c ∗ ∃ W, owes (c : Thread nD τ) 0 W) : sProp 𝕄) := by
  unfold CT FIN psA psB keep rsOwn wfree owesC
  rw [if_neg (by decide : ¬ (2 : ℕ) < 2), rem_end]
  unfold grant
  iintro ⟨#HC, ⟨Ha0, ⟨⟨Ha1, -⟩, ⟨Ha2, -⟩, ⟨Ha3, -⟩, ⟨Hr1, -⟩⟩, ⟨⟨Hr4, -⟩, ⟨Hr5, -⟩⟩, ⟨Hr0, Hr2, Hr3⟩, HO, ⟨H0, H1, H2⟩, ⟨H3, H4, H5⟩, Hx, Hp⟩, HB, Hw0, Hw1, Hz0, Hz1⟩
  imod (close_rule c (VV I) K 0) $$ [H0] with H0
  · isplitr; · iexact HC
    iexact H0
  imod (close_rule c (VV I) K 1) $$ [H1] with H1
  · isplitr; · iexact HC
    iexact H1
  imod (close_rule c (VV I) K 2) $$ [H2] with H2
  · isplitr; · iexact HC
    iexact H2
  imod (close_rule c (VV I) K 3) $$ [H3] with H3
  · isplitr; · iexact HC
    iexact H3
  imod (close_rule c (VV I) K 4) $$ [H4] with H4
  · isplitr; · iexact HC
    iexact H4
  imod (close_rule c (VV I) K 5) $$ [H5] with H5
  · isplitr; · iexact HC
    iexact H5
  imod (closeBar_rule c (VV I) K) $$ [HB] with HB
  · isplitr; · iexact HC
    iexact HB
  imodintro
  isplitl [Ha0 Ha1 Ha2 Ha3 Hr0 Hr1 Hr2 Hr3 Hr4 Hr5 Hx Hp Hw0 Hw1]
  · unfold scr
    isplitl [Hx]; · iexact Hx
    isplitl [Hp]; · iexact Hp
    isplitl [Ha0 Ha1 Ha2 Ha3]
    · iapply (ag_join c)
      unfold agAll
      isplitl [Ha0]; · iexact Ha0
      isplitl [Ha1]; · iexact Ha1
      isplitl [Ha2]; · iexact Ha2
      iexact Ha3
    isplitl [Hr0 Hr1 Hr2 Hr3 Hr4 Hr5]
    · iapply (rs_join c)
      unfold rsAll
      isplitl [Hr0]; · iexact Hr0
      isplitl [Hr1]; · iexact Hr1
      isplitl [Hr2]; · iexact Hr2
      isplitl [Hr3]; · iexact Hr3
      isplitl [Hr4]; · iexact Hr4
      iexact Hr5
    iapply (ws_join c)
    isplitl [Hw0]; · iexact Hw0
    iexact Hw1
  isplitr [HO]
  · unfold zeros
    isplitl [H0 H1 H2]
    · isplitl [H0]; · iexact H0
      isplitl [H1]; · iexact H1
      iexact H2
    isplitl [H3 H4 H5]
    · isplitl [H3]; · iexact H3
      isplitl [H4]; · iexact H4
      iexact H5
    isplitr [HB]
    · isplitl [Hz0]; · iexact Hz0
      iexact Hz1
    iexact HB
  iexact HO

/-! ## The body -/

/-- What the launch leaves with device `c` beside buffers: invariants, marks and levels, the tokens and positions, the weight semaphores. -/
def ghost : sProp 𝕄 := iprop(CT I K ∗ marks ∗ tkBar c ∗ tkAll c ∗ psA c 0 ∗ psB c 0 ∗ wsem c 0 ∗ wsem c 1)

theorem body_rule (Q : PUnit → sProp 𝕄) (a0 o : Memref sig .tc .vmem S64x2048 .f32) (h0 : a0.IsWhole) (ho : o.IsWhole)
    (g : Buf (Elt F) (a0.view.loc (c : Thread nD τ))) (hg : a0.view.read (Elt F) g = I.x c) (y : Buf (Elt F) (o.view.loc (c : Thread nD τ))) :
    iprop(ghost c I K ∗ (∃ W, owes (c : Thread nD τ) (O₀ c) W) ∗ scr c ∗ wts I c ∗ (a0.view.loc (c : Thread nD τ) ↦{fullShare} g) ∗ (o.view.loc (c : Thread nD τ) ↦{fullShare} y))
      ⊢ iprop((scr c ∗ zeros c ∗ (∃ W, owes (c : Thread nD τ) 0 W) ∗ wts I c ∗ (a0.view.loc (c : Thread nD τ) ↦{fullShare} g)
            ∗ (∃ g' : Buf (Elt F) (o.view.loc (c : Thread nD τ)), ⌜o.view.read (Elt F) g' = outV I c⌝ ∗ (o.view.loc (c : Thread nD τ) ↦{fullShare} g'))
          -∗ Q ⟨⟩)
        -∗ wpc c (cc0_body a0 h0 (Memref.whole main_arg1) (Memref.isWhole_whole _) (Memref.whole main_arg4) (Memref.isWhole_whole _)
            (Memref.whole main_arg2) (Memref.isWhole_whole _) (Memref.whole main_arg5) (Memref.isWhole_whole _) (Memref.whole main_arg3) (Memref.isWhole_whole _)
            (Memref.whole main_arg6) (Memref.isWhole_whole _) o ho xgM (Memref.isWhole_whole _) ptM (Memref.isWhole_whole _) agM (Memref.isWhole_whole _)
            rsM (Memref.isWhole_whole _) wsM (Memref.isWhole_whole _) cc0_scratch5 cc0_scratch6 cc0_scratch7 cc0_scratch8 cc0_scratch9) Q) := by
  rw [body_eq]
  unfold ghost scr
  iintro ⟨⟨#HC, #HM, HtB, Ht, HpA, HpB, Hz0, Hz1⟩, HO, ⟨Hx, Hp, Ha, Hr, Hw⟩, Hwt, Hi, Ho⟩ Hk
  ihave Ha := (ag_split c) $$ Ha
  ihave Hr := (rs_split c) $$ Hr
  ihave Hw := (ws_split c) $$ Hw
  icases Hw with ⟨Hw0, Hw1⟩
  unfold wpc
  rw [wp_deviceId]
  iapply (chain_rule I K c Q a0 o g hg y) $$ [HtB Ht HpA HpB Hz0 Hz1 HO Hx Hp Ha Hr Hw0 Hw1 Hwt Hi Ho]
  · isplitr; · iexact HC
    isplitr; · iexact HM
    isplitl [HO]; · iexact HO
    isplitl [HtB]; · iexact HtB
    isplitl [Ht]; · iexact Ht
    isplitl [Ha]; · iexact Ha
    isplitl [Hr]; · iexact Hr
    isplitl [HpA]; · iexact HpA
    isplitl [HpB]; · iexact HpB
    isplitl [Hx]; · iexact Hx
    isplitl [Hp]; · iexact Hp
    isplitl [Hw0 Hw1 Hz0 Hz1]
    · unfold wfree
      isplitl [Hw0]; · iexact Hw0
      isplitl [Hw1]; · iexact Hw1
      isplitl [Hz0]; · iexact Hz0
      iexact Hz1
    isplitl [Hwt]; · iexact Hwt
    isplitl [Hi]; · iexact Hi
    iexact Ho
  iintro ⟨HF, HB, Hw, Hwt, Hi, Ho⟩
  unfold wpc
  rw [wp_ret]
  imod (exit_rule c I K) $$ [HF HB Hw] with ⟨Hs, Hz, HO⟩
  · isplitr; · iexact HC
    isplitl [HF]; · iexact HF
    isplitl [HB]; · iexact HB
    iexact Hw
  imodintro
  iapply Hk
  unfold scr
  isplitl [Hs]; · iexact Hs
  isplitl [Hz]; · iexact Hz
  isplitl [HO]; · iexact HO
  isplitl [Hwt]; · iexact Hwt
  isplitl [Hi]; · iexact Hi
  iexact Ho

end Cert.KernelIdeal.Run

end
-- ==== Proof.Launch.lean ====
/-
# The launch

What the launch element deals each device, the credits of what all devices owe, the body obligation of the pipeline, and
the run of the whole mesh from any memory.
-/
module

public import proofs.«01_k».proof.Proof.Exit
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

/-- The layers' arguments as the devices' memories hold them. -/
def argsOf : Args F where
  x c := (win0_0.blk t0_0).view.read (Elt F) (m (win0_0.arr.view.loc (c : Thread nD τ)))
  a := fun
    | 0, c => m ((c : Thread nD τ).loc main_arg1)
    | 1, c => m ((c : Thread nD τ).loc main_arg2)
    | _, c => m ((c : Thread nD τ).loc main_arg3)
  b := fun
    | 0, c => m ((c : Thread nD τ).loc main_arg4)
    | 1, c => m ((c : Thread nD τ).loc main_arg5)
    | _, c => m ((c : Thread nD τ).loc main_arg6)

def t₀ : Fin cfg0.N := t0_0

/-- The staged input block, -/
def xstg (c : Dev nD) : (cc0_stg0_0 : Ref sig .tc).ty.Contents (Elt F) := (win0_0.blk t₀).view.read (Elt F) (m (win0_0.arr.view.loc (c : Thread nD τ)))
/-- read as the body reads it. -/
theorem xstg_eq (c : Dev nD) : (Memref.whole cc0_stg0_0 : Memref sig .tc .vmem S64x2048 .f32).view.read (Elt F) (xstg m c) = (argsOf m).x c := by
  exact View.read_whole _ _

/-- The buffers of the weights as the launch found them. -/
abbrev rest (c : Dev nD) : sProp 𝕄 := Pipeline.unscopedRest cfg0.spec c fun b => m ((c : Thread nD τ).loc b)

theorem rest_wts (c : Dev nD) : (rest m c : sProp 𝕄) ⊢ wts (argsOf m) c := by
  unfold rest wts
  rw [unscopedRest0_eq]
  iintro ⟨H1, H2, H3, H4, H5, H6⟩
  isplitl [H1 H4]
  · isplitl [H1]; · iexact H1
    iexact H4
  isplitl [H2 H5]
  · isplitl [H2]; · iexact H2
    iexact H5
  isplitl [H3]; · iexact H3
  iexact H6
theorem wts_rest (c : Dev nD) : wts (argsOf m) c ⊢ (rest m c : sProp 𝕄) := by
  unfold rest wts
  rw [unscopedRest0_eq]
  iintro ⟨⟨H1, H4⟩, ⟨H2, H5⟩, H3, H6⟩
  isplitl [H1]; · iexact H1
  isplitl [H2]; · iexact H2
  isplitl [H3]; · iexact H3
  isplitl [H4]; · iexact H4
  isplitl [H5]; · iexact H5
  iexact H6

/-! ## The pipeline's contents -/

def start (c : Dev nD) : sProp 𝕄 := iprop((∃ K, ghost c (argsOf m) K) ∗ rest m c)
def Φ₀ (c : Dev nD) : sProp 𝕄 := iprop(start m c ∗ scr c)
def Φ₁ (c : Dev nD) : sProp 𝕄 := iprop(scr c ∗ zeros c ∗ rest m c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => outV (argsOf m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (c : Dev nD) (b : Ref sig .tc) (q : PosShare TreeShare) (X : b.ty.Contents (Elt F)) :
    (owns (c : Thread nD τ) (Memref.whole b) q X : sProp 𝕄) = iprop(∃ f : Buf (Elt F) (((c : Dev nD) : Thread nD τ).loc b), ⌜f = X⌝ ∗ (((c : Thread nD τ).loc b) ↦{q} f)) := by
  unfold owns; simp only [Memref.view_whole, View.read_whole, View.set_whole]

def bodyPre (c : Dev nD) : sProp 𝕄 :=
  iprop(Φ₀ m c ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m c ∗ (dats m ρ 0 c).owesAt 0 t₀.succ ∗ stg c cc0_stg0_0 (xstg m c) ∗ stg c cc0_stg1_0 (outV (argsOf m) c))

set_option maxRecDepth 100000 in
set_option maxHeartbeats 1000000 in
/-- The pipeline's body obligation on device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole]
  show bodyPre m ρ c ⊢ wp frame (wpE (defs₀ (F := F)) 𝒱₀ c none) Set.univ
    (cc0_body (Memref.whole cc0_stg0_0) (Memref.isWhole_whole _) (Memref.whole main_arg1) (Memref.isWhole_whole _) (Memref.whole main_arg4) (Memref.isWhole_whole _)
            (Memref.whole main_arg2) (Memref.isWhole_whole _) (Memref.whole main_arg5) (Memref.isWhole_whole _) (Memref.whole main_arg3) (Memref.isWhole_whole _)
            (Memref.whole main_arg6) (Memref.isWhole_whole _) (Memref.whole cc0_stg1_0) (Memref.isWhole_whole _) xgM (Memref.isWhole_whole _) ptM (Memref.isWhole_whole _) agM (Memref.isWhole_whole _)
            rsM (Memref.isWhole_whole _) wsM (Memref.isWhole_whole _) cc0_scratch5 cc0_scratch6 cc0_scratch7 cc0_scratch8 cc0_scratch9) (fun _ => bodyPost m ρ c)
  unfold bodyPre Φ₀ start
  iintro ⟨⟨⟨⟨%K, Hg⟩, Hw⟩, Hscr⟩, HO, ⟨%d0, %g0, %hg0, Hx⟩, ⟨%d1, %g1, %hg1, Hout⟩⟩
  have hx : g0 = xstg m c := by rw [hg0]; unfold Dat.before; rw [if_pos (fetch0_0 t₀)]; rfl
  subst hx
  unfold Dat.owesAt Pipeline.owesWithin
  icases HO with ⟨%W, %hW, HO⟩
  rw [show (dats m ρ 0 c).owed t₀.castSucc = O₀ c from rfl]
  ihave Hw := (rest_wts m c) $$ Hw
  iapply (body_rule c (argsOf m) K (fun _ => bodyPost m ρ c) (Memref.whole cc0_stg0_0) (Memref.whole cc0_stg1_0) (Memref.isWhole_whole _) (Memref.isWhole_whole _)
    (xstg m c) (xstg_eq m c) g1) $$ [Hg Hw Hscr HO Hx Hout]
  · isplitl [Hg]; · iexact Hg
    isplitl [HO]; · iexists W; iexact HO
    isplitl [Hscr]; · iexact Hscr
    isplitl [Hw]; · iexact Hw
    isplitl [Hx]; · iexact Hx
    iexact Hout
  iintro ⟨Hscr, Hz, ⟨%W', HO⟩, Hw, Hx, ⟨%g', %hg', Hout⟩⟩
  ihave Hw := (wts_rest m c) $$ Hw
  unfold bodyPost Φ₁ Dat.owesAt Pipeline.owesWithin
  isplitl [Hscr Hz Hw]
  · isplitl [Hscr]; · iexact Hscr
    isplitl [Hz]; · iexact Hz
    iexact Hw
  isplitl [HO]
  · iexists W'
    isplitr
    · ipureintro; exact fun _ _ => Or.inl trivial
    rw [show (dats m ρ 0 c).owed t₀.succ = 0 from rfl]
    iexact HO
  isplitl [Hx]
  · iexists _; isplitr; · (ipureintro; rfl)
    iexact Hx
  iexists g'; isplitr; · (ipureintro; exact hg')
  iexact Hout

/-! ## The launch element -/

theorem share_eq (c : Dev nD) (w : Fin cfg0.W) : (dats m ρ 0 c).share w = fullShare := by unfold Dat.share; split <;> rfl

def cells : Finset (GSem nD τ sig) := Finset.univ.map ⟨kcell, kcell_inj⟩

/-- A device's own duties: both of its barrier cell, one for each of its transfers' cells and each round. -/
abbrev TI : Type := Bool ⊕ ((Bool × Fin 6) × Fin 3)
abbrev tokOf (x : Dev nD × TI) : GSem nD τ sig × ℕ × Bool := match x.2 with
  | .inl d => (barCell x.1, 0, d)
  | .inr (k, r) => (kcell (x.1, some k), r.val, false)

theorem tokOf_inj : Function.Injective tokOf := by
  have hb (c c' : Dev nD) (k : Bool × Fin 6) : barCell c ≠ kcell (c', some k) := fun h => by
    have h : kcell (c, none) = kcell (c', some k) := h
    cases congrArg Prod.snd (kcell_inj h)
  rintro ⟨c, d | ⟨k, r⟩⟩ ⟨c', d' | ⟨k', r'⟩⟩ h
  · have h1 : kcell (c, none) = kcell (c', none) := congrArg Prod.fst h
    have h2 : d = d' := congrArg (fun x : GSem nD τ sig × ℕ × Bool => x.2.2) h
    cases kcell_inj h1; subst h2; rfl
  · exact absurd (congrArg Prod.fst h) (hb _ _ _)
  · exact absurd (congrArg Prod.fst h).symm (hb _ _ _)
  · have h1 : kcell (c, some k) = kcell (c', some k') := congrArg Prod.fst h
    have h2 : r.val = r'.val := congrArg (fun x : GSem nD τ sig × ℕ × Bool => x.2.1) h
    cases kcell_inj h1; cases Fin.ext h2; rfl

def toksSet : Finset (GSem nD τ sig × ℕ × Bool) := Finset.univ.map ⟨tokOf, tokOf_inj⟩

def u₀ : UU :=
  (initOf (Pipeline.cells cfgs cellOf_inj) (Pipeline.launchToks cfgs cellOf_inj), (initOf cells toksSet, 1))

theorem own_rounds : BI.own ((embR : Emb (UB × Counters) 𝕄) (initOf cells toksSet, 1)) ⊢ (BI.own (ER (initOf cells toksSet)) : sProp 𝕄) := by
  have h := own_pair_emb (embR : Emb (UB × Counters) 𝕄) (initOf cells toksSet) (1 : Counters)
  iintro H
  ihave H := h $$ H
  icases H with ⟨H, -⟩
  unfold ER
  iexact H

/-- The duty tokens of device `c`'s own cells, -/
def toks (c : Dev nD) : sProp 𝕄 :=
  iprop((dutyTok ER (barCell c) 0 false ∗ dutyTok ER (barCell c) 0 true)
    ∗ bigSep Finset.univ fun k : Bool × Fin 6 => bigSep Finset.univ fun r : Fin 3 => dutyTok ER (kcell (c, some k)) r.val false)
/-- and of the duties it pays. -/
def payer (k : Bool × Fin 6) (c : Dev nD) : Dev nD := if k.1 then tgt k.2 c else c
def payToks (c : Dev nD) : sProp 𝕄 :=
  iprop((dutyTok ER (barCell (nxt c)) 0 false ∗ dutyTok ER (barCell (prv c)) 0 true)
    ∗ bigSep Finset.univ fun k : Bool × Fin 6 => bigSep Finset.univ fun r : Fin 3 => dutyTok ER (kcell (payer k c, some k)) r.val false)

def payerE (k : Bool × Fin 6) : Dev nD ≃ Dev nD :=
  ⟨payer k, fun c => if k.1 then src k.2 c else c, fun c => by unfold payer; split; exact src_tgt _ _; rfl,
    fun c => by unfold payer; split; exact tgt_src _ _; rfl⟩

theorem toks_around : (bigSep Finset.univ fun c : Dev nD => (toks c : sProp 𝕄)) ⊢ bigSep Finset.univ fun c : Dev nD => payToks c := by
  have h : (bigSep Finset.univ fun c : Dev nD => bigSep Finset.univ fun k : Bool × Fin 6 => bigSep Finset.univ fun r : Fin 3 => (dutyTok ER (kcell (c, some k)) r.val false : sProp 𝕄))
      = bigSep Finset.univ fun c : Dev nD => bigSep Finset.univ fun k : Bool × Fin 6 => bigSep Finset.univ fun r : Fin 3 => dutyTok ER (kcell (payer k c, some k)) r.val false := by
    rw [BI.bigSep_univ_comm, BI.bigSep_univ_comm (fun (c : Dev nD) (k : Bool × Fin 6) => bigSep Finset.univ fun r : Fin 3 => (dutyTok ER (kcell (payer k c, some k)) r.val false : sProp 𝕄))]
    exact bigSep_congr fun k _ => bigSep_univ_equiv (payerE k) fun c : Dev nD => bigSep Finset.univ fun r : Fin 3 => (dutyTok ER (kcell (c, some k)) r.val false : sProp 𝕄)
  unfold toks payToks
  rw [bigSep_sep', bigSep_sep', bigSep_sep', bigSep_sep', h,
    bigSep_univ_equiv ring (fun c : Dev nD => (dutyTok ER (barCell c) 0 false : sProp 𝕄)),
    bigSep_univ_equiv ring.symm (fun c : Dev nD => (dutyTok ER (barCell c) 0 true : sProp 𝕄))]
  iintro H; iexact H

variable (I : Args F)

/-- What the launch element deals device `c`, -/
def G (c : Dev nD) : sProp 𝕄 :=
  iprop((bigSep Finset.univ fun k : CK => roundState ER (Rd (VV I)) (kcell (c, k)) 0)
    ∗ (bigSep Finset.univ fun k : CK => iprop(atPos ER (kcell (c, k)) 0 ∅ 0 ∗ reached ER (kcell (c, k)) 0)) ∗ toks c)
/-- and what it holds once every cell's invariant stands. -/
def linear (c : Dev nD) : sProp 𝕄 :=
  iprop((bigSep Finset.univ fun k : CK => atPos ER (kcell (c, k)) 0 ∅ 0) ∗ (wsem c 0 ∗ wsem c 1) ∗ payToks c)
def G' (c : Dev nD) : sProp 𝕄 := iprop(∃ K, (invs (VV I) K ∗ marks) ∗ linear c)

theorem fund_all : BI.own (ER (initOf cells toksSet)) ⊢ (|==> bigSep Finset.univ (G I) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep toksSet (fun x => (dutyTok ER x.1 x.2.1 x.2.2 : sProp 𝕄)) = bigSep Finset.univ fun c : Dev nD => toks c := by
    unfold toksSet; rw [bigSep_map, bigSep_univ_prod]
    exact bigSep_congr fun c _ => by
      unfold toks
      rw [BI.bigSep_univ_sum, bigSep_univ_prod, bigSep_univ_eq_bigSepL [false, true] (by decide) (by decide)]; rfl
  iintro HX
  imod (Rounds.fund ER (Rd (VV I)) cells toksSet) $$ HX with ⟨Hst, Hr, Hat, Htok⟩
  imodintro
  ihave Hst' := (Entails.of_eq (hX fun g => roundState ER (Rd (VV I)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

def osem : Fin 14 → SemLoc sig := fun i => .dma (⟨i.val + 2, by have := i.isLt; omega⟩ : Fin 16)

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0
      ∗ semVal (sendCell c 3) 0 ∗ semVal (sendCell c 4) 0 ∗ semVal (sendCell c 5) 0 ∗ semVal (recvCell c 3) 0 ∗ semVal (recvCell c 4) 0 ∗ semVal (recvCell c 5) 0
      ∗ wsem c 0 ∗ wsem c 1) := by
  rw [Pipeline.ownSems0_eq_of_list c osem [0, 1, 2, 3, 4, 5, 6, 7, 8, 9, 10, 11, 12, 13] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The cells of the schedule in a row. -/
theorem bigSep_CK (Φ : CK → sProp 𝕄) : bigSep Finset.univ Φ = iprop(Φ none
    ∗ Φ (some (false, 0)) ∗ Φ (some (false, 1)) ∗ Φ (some (false, 2)) ∗ Φ (some (false, 3)) ∗ Φ (some (false, 4)) ∗ Φ (some (false, 5))
    ∗ Φ (some (true, 0)) ∗ Φ (some (true, 1)) ∗ Φ (some (true, 2)) ∗ Φ (some (true, 3)) ∗ Φ (some (true, 4)) ∗ Φ (some (true, 5))) :=
  bigSep_univ_eq_bigSepL [none, some (false, 0), some (false, 1), some (false, 2), some (false, 3), some (false, 4), some (false, 5),
    some (true, 0), some (true, 1), some (true, 2), some (true, 3), some (true, 4), some (true, 5)] (by decide) (by decide) Φ

theorem sems0_eq (c : Dev nD) :
    iprop(Pipeline.ownSems0 (Ix := ℕ) (Name := ℕ) (U := UU) (Lvl := ℕ) (Val := Elt F) (τ := τ) osem c ∗ unscopedSems0 c)
      ⊢ (iprop((bigSep Finset.univ fun k : CK => semVal (kcell (c, k)) 0) ∗ wsem c 0 ∗ wsem c 1) : sProp 𝕄) := by
  rw [ownSems0_eq, unscopedSems0_eq, bigSep_CK]
  iintro ⟨⟨S0, S1, S2, R0, R1, R2, S3, S4, S5, R3, R4, R5, W0, W1⟩, HB⟩
  isplitr [W0 W1]
  · isplitl [HB]; · iexact HB
    isplitl [S0]; · iexact S0
    isplitl [S1]; · iexact S1
    isplitl [S2]; · iexact S2
    isplitl [S3]; · iexact S3
    isplitl [S4]; · iexact S4
    isplitl [S5]; · iexact S5
    isplitl [R0]; · iexact R0
    isplitl [R1]; · iexact R1
    isplitl [R2]; · iexact R2
    isplitl [R3]; · iexact R3
    isplitl [R4]; · iexact R4
    iexact R5
  isplitl [W0]; · iexact W0
  iexact W1

theorem zeros_sems0 (c : Dev nD) : (zeros c : sProp 𝕄)
    ⊢ iprop(Pipeline.ownSems0 (Ix := ℕ) (Name := ℕ) (U := UU) (Lvl := ℕ) (Val := Elt F) (τ := τ) osem c ∗ unscopedSems0 c) := by
  rw [ownSems0_eq, unscopedSems0_eq]
  unfold zeros zero
  iintro ⟨⟨⟨S0, R0⟩, ⟨S1, R1⟩, ⟨S2, R2⟩⟩, ⟨⟨S3, R3⟩, ⟨S4, R4⟩, ⟨S5, R5⟩⟩, ⟨W0, W1⟩, HB⟩
  isplitr [HB]
  · isplitl [S0]; · iexact S0
    isplitl [S1]; · iexact S1
    isplitl [S2]; · iexact S2
    isplitl [R0]; · iexact R0
    isplitl [R1]; · iexact R1
    isplitl [R2]; · iexact R2
    isplitl [S3]; · iexact S3
    isplitl [S4]; · iexact S4
    isplitl [S5]; · iexact S5
    isplitl [R3]; · iexact R3
    isplitl [R4]; · iexact R4
    isplitl [R5]; · iexact R5
    isplitl [W0]; · iexact W0
    iexact W1
  iexact HB

theorem core_alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd (VV I)) κ (kcell (c, k))))
          ∗ (bigSep Finset.univ fun k => iprop(atPos ER (kcell (c, k)) 0 ∅ 0 ∗ reached ER (kcell (c, k)) 0)) ∗ (wsem c 0 ∗ wsem c 1) ∗ toks c) := by
  unfold G
  iintro ⟨Hos, Hus, Hst, Hat, Htok⟩
  ihave Hv := (sems0_eq (F := F) c) $$ [Hos Hus]
  · isplitl [Hos] <;> iassumption
  icases Hv with ⟨Hv, Hw⟩
  imod (show iprop((bigSep Finset.univ fun k : CK => semVal (kcell (c, k)) 0) ∗ bigSep Finset.univ fun k : CK => roundState ER (Rd (VV I)) (kcell (c, k)) 0)
      ⊢ (|={Set.univ}=> bigSep Finset.univ fun k => iprop(∃ κ : ℕ, cellInv ER (Rd (VV I)) κ (kcell (c, k))) : sProp 𝕄) from by
        rw [← bigSep_sep']
        exact (bigSep_mono fun k _ => (Rounds.body_intro ER (Rd (VV I)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hw]; · iexact Hw
  iexact Htok

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_all : (bigSep Finset.univ fun c : Dev nD => (linear c : sProp 𝕄))
    = iprop((bigSep Finset.univ fun c : Dev nD => bigSep Finset.univ fun k : CK => atPos ER (kcell (c, k)) 0 ∅ 0)
      ∗ ((bigSep Finset.univ fun c : Dev nD => wsem c 0) ∗ bigSep Finset.univ fun c : Dev nD => wsem c 1) ∗ bigSep Finset.univ fun c : Dev nD => payToks c) := by
  unfold linear
  rw [bigSep_sep', bigSep_sep', bigSep_sep']

theorem regroup :
    (bigSep Finset.univ fun c : Dev nD => iprop((bigSep Finset.univ fun k => iprop(∃ κ : ℕ, cellInv ER (Rd (VV I)) κ (kcell (c, k))))
          ∗ (bigSep Finset.univ fun k => iprop(atPos ER (kcell (c, k)) 0 ∅ 0 ∗ reached ER (kcell (c, k)) 0)) ∗ (wsem c 0 ∗ wsem c 1) ∗ toks c) : sProp 𝕄)
      ⊢ bigSep Finset.univ (G' I) := by
  rw [bigSep_sep', bigSep_sep', bigSep_sep', bigSep_sep' Finset.univ (fun c : Dev nD => wsem c 0) (fun c => wsem c 1),
    ← bigSep_univ_prod (fun ck : Dev nD × CK => iprop(∃ κ : ℕ, cellInv ER (Rd (VV I)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Hw, Htok⟩
  ihave HK := (BI.bigSep_exists_pi Finset.univ (fun (ck : Dev nD × CK) (κ : ℕ) => (cellInv ER (Rd (VV I)) κ (kcell ck) : sProp 𝕄))) $$ HI
  icases HK with ⟨%K, #HI⟩
  ihave Htk := (toks_around (F := F)) $$ Htok
  iapply (with_persistent (R := iprop(invs (VV I) K ∗ marks)) (Φ := linear) fun c _ => show _ ⊢ G' I c from by
    unfold G'; iintro H; iexists K; iexact H)
  isplitr
  · unfold invs marks; isplitl; · iexact HI
    iexact HR
  · rw [linear_all]
    isplitl [Hat]; · iexact Hat
    isplitl [Hw]; · iexact Hw
    iexact Htk

/-- The global step: every device's semaphores at once. -/
theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem bar_eq_iff {a b : Dev nD} : Iff (barCell a = barCell b) (a = b) :=
  ⟨fun h => congrArg Prod.fst (kcell_inj (a₁ := (a, none)) (a₂ := (b, none)) h), fun h => h ▸ rfl⟩
theorem recv_eq_iff {a b : Dev nD} {j j' : Fin 6} : Iff (recvCell a j = recvCell b j') (a = b ∧ j = j') :=
  ⟨fun h => by cases kcell_inj (a₁ := (a, some (true, j))) (a₂ := (b, some (true, j'))) h; exact ⟨rfl, rfl⟩, fun ⟨h, h'⟩ => h ▸ h' ▸ rfl⟩
theorem bar_ne_recv {a b : Dev nD} {j : Fin 6} : barCell a ≠ recvCell b j := fun h => by
  cases kcell_inj (a₁ := (a, none)) (a₂ := (b, some (true, j))) h

theorem rem_bar (d c : Dev nD) (u : ℕ) : rem d 0 (barCell c) u = 0 :=
  Nat.eq_zero_of_not_pos fun h => by
    obtain ⟨k, -, -, d', j, -, hg, -⟩ := rem_pos h
    exact bar_ne_recv hg

theorem rem_recv (d c : Dev nD) (j : Fin 6) (u : ℕ) : rem d 0 (recvCell c j) u = if d = src j c then (if u < 3 then N else 0) else 0 := by
  unfold rem
  rw [Finset.sum_apply, Finsupp.finset_sum_apply]
  have hj := j.isLt
  have hk (k : ℕ) : due d k (recvCell c j) u = if k = 6 * u + j.val then (if d = src j c then N else 0) else 0 := by
    unfold due
    rw [tallyAt_apply]
    have e : (recvCell c j = recvCell (tgt ⟨k % 6, Nat.mod_lt _ (by decide)⟩ d) ⟨k % 6, Nat.mod_lt _ (by decide)⟩ ∧ u = k / 6) ↔ (k = 6 * u + j.val ∧ d = src j c) := by
      rw [recv_eq_iff]
      constructor
      · rintro ⟨⟨h1, h2⟩, h3⟩
        subst h2
        refine ⟨by show k = 6 * u + k % 6; omega, ?_⟩
        rw [h1, src_tgt]
      · rintro ⟨h1, h2⟩
        have h3 : (⟨k % 6, Nat.mod_lt _ (by decide)⟩ : Fin 6) = j := Fin.ext (by show k % 6 = j.val; omega)
        rw [h3]
        refine ⟨⟨?_, rfl⟩, by omega⟩
        rw [h2, tgt_src]
    by_cases h1 : k = 6 * u + j.val
    · by_cases h2 : d = src j c
      · rw [if_pos (e.mpr ⟨h1, h2⟩), if_pos h1, if_pos h2]
      · rw [if_neg (fun h => h2 (e.mp h).2), if_pos h1, if_neg h2]
    · rw [if_neg (fun h => h1 (e.mp h).1), if_neg h1]
  rw [Finset.sum_congr rfl fun k _ => hk k, Finset.sum_ite_eq' _ (6 * u + j.val)]
  simp only [Finset.mem_filter, Finset.mem_range]
  by_cases hu : u < 3
  · rw [if_pos (by omega), if_pos hu]
  · rw [if_neg (by omega), if_neg hu, ite_self]

theorem owed_bar (d c : Dev nD) (u : ℕ) : O₀ d (barCell c) u = if u = 0 then (if d = prv c then 1 else 0) + (if d = nxt c then 1 else 0) else 0 := by
  rw [O₀_apply, rem_bar, Nat.zero_add]
  simp only [bar_eq_iff]
  have e1 : c = nxt d ↔ d = prv c := ⟨fun h => by rw [h, prv_nxt], fun h => by rw [h, nxt_prv]⟩
  have e2 : c = prv d ↔ d = nxt c := ⟨fun h => by rw [h, nxt_prv], fun h => by rw [h, prv_nxt]⟩
  by_cases hu : u = 0
  · simp only [e1, e2, hu, and_true, if_true]
  · simp only [hu, and_false, if_false]

theorem owed_recv (d c : Dev nD) (j : Fin 6) (u : ℕ) : O₀ d (recvCell c j) u = if d = src j c then (if u < 3 then N else 0) else 0 := by
  rw [O₀_apply, rem_recv, if_neg (fun h : recvCell c j = barCell (nxt d) ∧ u = 0 => bar_ne_recv h.1.symm),
    if_neg (fun h : recvCell c j = barCell (prv d) ∧ u = 0 => bar_ne_recv h.1.symm), Nat.add_zero]

theorem launch_bar (c : Dev nD) :
    tallyOn (barCell c) (launchCredit (Pipeline.owing O₀) 0 (barCell c)) = (tallyAt (barCell c) 0 2 : CellTallies nD τ sig ℕ) := by
  unfold tallyAt; refine congrArg _ (Finsupp.ext fun u => ?_)
  rw [Pipeline.launchCredit_owing, Finset.sum_congr rfl fun d _ => owed_bar d c u, Finsupp.single_apply]
  by_cases hu : u = 0
  · simp only [hu, if_true]
    rw [Finset.sum_add_distrib,
      Finset.sum_ite_eq' Finset.univ (prv c) fun _ => 1, Finset.sum_ite_eq' Finset.univ (nxt c) fun _ => 1, if_pos (Finset.mem_univ _), if_pos (Finset.mem_univ _)]
  · simp only [hu, if_false, Finset.sum_const_zero]
    rw [if_neg fun h => hu h.symm]

theorem launch_recv (c : Dev nD) (j : Fin 6) :
    tallyOn (recvCell c j) (launchCredit (Pipeline.owing O₀) 0 (recvCell c j))
      = (tallyAt (recvCell c j) 0 N + (tallyAt (recvCell c j) 1 N + tallyAt (recvCell c j) 2 N) : CellTallies nD τ sig ℕ) := by
  have e : launchCredit (Pipeline.owing O₀) 0 (recvCell c j) = Finsupp.single 0 N + (Finsupp.single 1 N + Finsupp.single 2 N) := by
    refine Finsupp.ext fun u => ?_
    rw [Pipeline.launchCredit_owing, Finset.sum_congr rfl fun d _ => owed_recv d c j u, Finset.sum_ite_eq' Finset.univ (src j c), if_pos (Finset.mem_univ _),
      Finsupp.add_apply, Finsupp.add_apply, Finsupp.single_apply, Finsupp.single_apply, Finsupp.single_apply]
    rcases u with _ | _ | _ | u
    · simp
    · simp
    · simp
    · rw [if_neg (by omega), if_neg (by omega), if_neg (by omega), if_neg (by omega)]; rfl
  rw [e]
  unfold tallyAt tallyOn
  rw [Pi.single_add, Pi.single_add]

theorem creds_recv (c : Dev nD) (j : Fin 6) : (cred (tallyOn (recvCell c j) (launchCredit (Pipeline.owing O₀) 0 (recvCell c j))) : sProp 𝕄)
    ⊢ bigSep Finset.univ fun r : Fin 3 => cred (tallyAt (recvCell c j) r.val N) := by
  rw [launch_recv, bigSep_univ_eq_bigSepL [0, 1, 2] (by decide) (by decide)]
  exact (cred_add _ _).1.trans (sep_mono_right (cred_add _ _).1)

theorem creds (c : Dev nD) :
    (Pipeline.launchCred O₀ c : sProp 𝕄) ⊢ iprop(cred (tallyAt (barCell c) 0 2)
      ∗ bigSep Finset.univ fun r : Fin 3 => bigSep Finset.univ fun j : Fin 6 => cred (tallyAt (recvCell c j) r.val N)) := by
  have inj : Function.Injective fun j : Fin 6 => (SemLoc.dma (rS j) : SemLoc sig) := fun a b h => by
    have h : csem (some (true, a)) = csem (some (true, b)) := h
    cases csem_inj h; rfl
  have hsub : Finset.univ.map ⟨fun j : Fin 6 => (SemLoc.dma (rS j) : SemLoc sig), inj⟩ ⊆ Finset.univ.erase (SemLoc.reg barS) := fun x hx => by
    obtain ⟨j, -, rfl⟩ := Finset.mem_map.mp hx
    exact Finset.mem_erase.mpr ⟨(fun h => by cases h), Finset.mem_univ _⟩
  unfold Pipeline.launchCred
  rw [bigSep_univ_at _ (SemLoc.reg barS), launch_bar, BI.bigSep_univ_comm]
  refine sep_mono_right ?_
  refine (bigSep_subset hsub).trans ?_
  rw [bigSep_map]
  exact bigSep_mono fun j _ => creds_recv c j

/-! ## What each device starts with -/

theorem toks_split (c : Dev nD) : (payToks c : sProp 𝕄) ⊢ iprop((dutyTok ER (barCell (nxt c)) 0 false ∗ dutyTok ER (barCell (prv c)) 0 true)
    ∗ bigSep Finset.univ fun r : Fin 3 => iprop((bigSep Finset.univ fun j : Fin 6 => dutyTok ER (recvCell (tgt j c) j) r.val false)
      ∗ bigSep Finset.univ fun j : Fin 6 => dutyTok ER (sendCell c j) r.val false)) := by
  unfold payToks
  rw [BI.bigSep_univ_comm]
  refine sep_mono_right (bigSep_mono fun r _ => ?_)
  rw [bigSep_univ_prod, bigSep_univ_eq_bigSepL [true, false] (by decide) (by decide)]
  exact BI.Entails.refl _

theorem tk_all (c : Dev nD) : (bigSep Finset.univ fun r : Fin 3 => bigSep Finset.univ fun j : Fin 6 => (tk j r.val c : sProp 𝕄)) ⊢ tkAll c := by
  have h (r : ℕ) : (bigSep Finset.univ fun j : Fin 6 => (tk j r c : sProp 𝕄)) ⊢ iprop(tkA c r ∗ tkB c r) := by
    rw [bigSep_univ_eq_bigSepL [0, 1, 2, 3, 4, 5] (by decide) (by decide)]
    unfold tkA tkB
    show iprop(tk 0 r c ∗ tk 1 r c ∗ tk 2 r c ∗ tk 3 r c ∗ tk 4 r c ∗ tk 5 r c) ⊢ _
    iintro ⟨H0, H1, H2, H3⟩
    isplitr [H3]
    · isplitl [H0]; · iexact H0
      isplitl [H1]; · iexact H1
      iexact H2
    iexact H3
  refine (bigSep_mono fun r _ => h r.val).trans ?_
  rw [bigSep_univ_eq_bigSepL [0, 1, 2] (by decide) (by decide)]
  unfold tkAll
  exact BI.Entails.refl _

theorem toks_all (c : Dev nD) :
    iprop((bigSep Finset.univ fun r : Fin 3 => iprop((bigSep Finset.univ fun j : Fin 6 => dutyTok ER (recvCell (tgt j c) j) r.val false)
      ∗ bigSep Finset.univ fun j : Fin 6 => dutyTok ER (sendCell c j) r.val false))
      ∗ bigSep Finset.univ fun r : Fin 3 => bigSep Finset.univ fun j : Fin 6 => cred (tallyAt (recvCell c j) r.val N)) ⊢ (tkAll c : sProp 𝕄) := by
  refine BIBase.Entails.trans ?_ (tk_all c)
  rw [← bigSep_sep']
  have h (r : ℕ) : iprop(((bigSep Finset.univ fun j : Fin 6 => dutyTok ER (recvCell (tgt j c) j) r false)
      ∗ bigSep Finset.univ fun j : Fin 6 => dutyTok ER (sendCell c j) r false) ∗ bigSep Finset.univ fun j : Fin 6 => cred (tallyAt (recvCell c j) r N))
      ⊢ (bigSep Finset.univ fun j : Fin 6 => tk j r c : sProp 𝕄) := by
    unfold tk
    rw [bigSep_sep', bigSep_sep']
    iintro ⟨⟨HR, HS⟩, HC⟩
    isplitl [HS]; · iexact HS
    isplitl [HR]; · iexact HR
    iexact HC
  exact bigSep_mono fun r _ => h r.val

theorem ghost_intro (c : Dev nD) :
    iprop(levAts L lv ∗ Pipeline.launchCred O₀ c ∗ G' I c) ⊢ (iprop(∃ K, ghost c I K) : sProp 𝕄) := by
  unfold G' linear
  rw [bigSep_CK]
  iintro ⟨#HL, Hcr, ⟨%K, ⟨#HI, #HM⟩, ⟨HaB, S0, S1, S2, S3, S4, S5, R0, R1, R2, R3, R4, R5⟩, ⟨W0, W1⟩, Ht⟩⟩
  ihave Hc := (creds (F := F) c) $$ Hcr
  icases Hc with ⟨HcB, Hc⟩
  ihave Ht := (toks_split (F := F) c) $$ Ht
  icases Ht with ⟨⟨HtN, HtP⟩, Ht⟩
  ihave Ht := (toks_all (F := F) c) $$ [Ht Hc]
  · isplitl [Ht] <;> iassumption
  ihave #M0 := (marks_at (F := F) (c, some (false, 0))) $$ HM
  ihave #M1 := (marks_at (F := F) (c, some (false, 1))) $$ HM
  ihave #M2 := (marks_at (F := F) (c, some (false, 2))) $$ HM
  ihave #M3 := (marks_at (F := F) (c, some (false, 3))) $$ HM
  ihave #M4 := (marks_at (F := F) (c, some (false, 4))) $$ HM
  ihave #M5 := (marks_at (F := F) (c, some (false, 5))) $$ HM
  iexists K
  unfold ghost CT ctx tkBar psA psB ps
  isplitr
  · isplitr; · iexact HI
    iexact HL
  isplitr; · iexact HM
  isplitl [HtN HtP HcB HaB]
  · isplitl [HtP]; · iexact HtP
    isplitl [HtN]; · iexact HtN
    isplitl [HcB]; · iexact HcB
    iexact HaB
  isplitl [Ht]; · iexact Ht
  isplitl [S0 S1 S2 R0 R1 R2]
  · isplitl [S0 R0]
    · isplitl [S0]; · iexact S0
      isplitl [R0]; · iexact R0
      iexact M0
    isplitl [S1 R1]
    · isplitl [S1]; · iexact S1
      isplitl [R1]; · iexact R1
      iexact M1
    isplitl [S2]; · iexact S2
    isplitl [R2]; · iexact R2
    iexact M2
  isplitl [S3 S4 S5 R3 R4 R5]
  · isplitl [S3 R3]
    · isplitl [S3]; · iexact S3
      isplitl [R3]; · iexact R3
      iexact M3
    isplitl [S4 R4]
    · isplitl [S4]; · iexact S4
      isplitl [R4]; · iexact R4
      iexact M4
    isplitl [S5]; · iexact S5
    isplitl [R5]; · iexact R5
    iexact M5
  isplitl [W0]; · iexact W0
  iexact W1

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(start m c ∗ emp) := by
  rw [Pipeline.unscopedRestP_none]
  iintro ⟨Hw, Hlev, Hcr, -, HG⟩
  ihave Hg := (ghost_intro (argsOf m) c) $$ [Hlev Hcr HG]
  · isplitl [Hlev]; · iexact Hlev
    isplitl [Hcr]; · iexact Hcr
    iexact HG
  imodintro
  unfold start
  isplitl
  · isplitl [Hg]; · iexact Hg
    iexact Hw
  · iempintro

theorem scoped_scr (c : Dev nD) : (Pipeline.scopedRest cfg0.spec c : sProp 𝕄) = scr c := by
  rw [scopedRest0_eq]; unfold scr; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scoped_scr]
  unfold Φ₀
  iintro ⟨Hs, -, Hr⟩
  isplitl [Hs]; · iexact Hs
  iexact Hr

/-- What the run ends with beside the windows: the barrier semaphore at zero and the weights' buffers. -/
def ends (c : Dev nD) : sProp 𝕄 := iprop(unscopedSems0 c ∗ rest m c)

theorem phi1_exit (c : Dev nD) :
    (dats m ρ 0 c).Φ (Fin.last cfg0.N) ⊢ iprop(ends m c ∗ Pipeline.ownSems0 osem c ∗ Pipeline.scopedRest cfg0.spec c) := by
  rw [show (dats m ρ 0 c).Φ (Fin.last cfg0.N) = Φ₁ m c from rfl, scoped_scr]
  unfold Φ₁ ends
  iintro ⟨Hr, Hz, Hw⟩
  ihave Hz := (zeros_sems0 (F := F) c) $$ Hz
  icases Hz with ⟨Hz, HzB⟩
  isplitl [HzB Hw]
  · isplitl [HzB]; · iexact HzB
    iexact Hw
  isplitl [Hz]; · iexact Hz
  iexact Hr

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every window's array at its computed contents, every other unscoped buffer unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ ∀ b ∈ Pipeline.restRefs sig cfg0.spec, r.2.mem ((c : Thread nD τ).loc b) = m ((c : Thread nD τ).loc b)

theorem ends_read (c : Dev nD) (s' : Phys nD τ sig (Elt F)) :
    iprop(ends m c ∗ SI s') ⊢ (|={Set.univ}=> iprop(⌜(∀ sm : SemLoc sig, sm.isScoped .tc = false → s'.mem.sem ((c.tc : Thread nD τ), sm) = 0)
      ∧ ∀ b ∈ Pipeline.restRefs sig cfg0.spec, s'.mem.mem ((c : Thread nD τ).loc b) = m ((c : Thread nD τ).loc b)⌝ ∗ SI s') : sProp 𝕄) := by
  unfold ends rest Pipeline.unscopedRest
  iintro ⟨⟨Hz, Hw⟩, HSI⟩
  ihave H := (pointsTo_read_all (Pipeline.restRefs sig cfg0.spec) (fun b => (c : Thread nD τ).loc b) (fun b => m ((c : Thread nD τ).loc b)) s') $$ [Hw HSI]
  · isplitl [Hw] <;> iassumption
  icases H with ⟨%hb, HSI⟩
  imod (Pipeline.unscopedSems0_read (X := unscopedSems0 c) (c := c) fupd_intro s') $$ [Hz HSI] with ⟨%hz, HSI⟩
  · isplitl [Hz] <;> iassumption
  imodintro
  isplitr
  · ipureintro; exact ⟨hz, hb⟩
  iexact HSI

set_option maxRecDepth 8000 in
/-- For any float values, from any memory with zero counters, every weakly fair execution of the mesh terminates, each
    device's result array at the computed contents, its other arrays unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (argsOf m)) (G' := G' (argsOf m)) (u₀ := u₀)
    (hu₀ := by
      unfold u₀
      iintro Hu
      ihave H := (ownU_pair _ _) $$ Hu
      icases H with ⟨HP, HX⟩
      ihave HX := own_rounds $$ HX
      imod (fund_all (argsOf m)) $$ HX with HG
      imodintro
      isplitl [HP] <;> iassumption)
    (hglob := glob (argsOf m))
    (hA := fun _ _ => rfl) (hpf := fun _ k => k.elim0)
    (X := start m) (Y := ends m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ b ∈ Pipeline.restRefs sig cfg0.spec, s.mem ((c : Thread nD τ).loc b) = m ((c : Thread nD τ).loc b))
    (hY := fun c s' => by
      iintro ⟨Hu, -, HSI⟩
      iapply (ends_read m c s')
      isplitl [Hu] <;> iassumption)
    (hQ := fun _ h hs => ⟨fun c => ⟨fun w => (h c).1 w, (h c).2.2.2⟩, sem_eq_zero hs fun c => (h c).2.2.1⟩)

end Cert.KernelIdeal.Run

end
-- ==== Proof.Final.lean ====
/-
# What a run leaves

The result array of each device after a run, as the last layer's value, and its seven argument arrays unchanged.
-/
module

public import proofs.«01_k».proof.Proof.Launch
public import Idealize.ShloMosaic.Lib.Pipeline.ValueKit.Geometry

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The input's one block is the whole array. -/
theorem argsOf_x (c : Dev nD) : (argsOf m).x c = m ((c : Thread nD τ).loc main_arg0) := by
  funext j
  show m (win0_0.arr.view.loc (c : Thread nD τ)) ((win0_0.blk t₀).view.emb j) = _
  congr 1
  show (win0_0.rect t₀).emb j = j
  funext a
  apply Fin.ext
  exact Window.rect_emb_val_of_index_zero _ _ _ ((by decide +kernel : ∀ a, win0_0.index t₀ a = 0) a) _

/-- The result's one block is the whole array, so it ends at the last layer's value. -/
theorem finalA_out (c : Dev nD) : finalA m ρ c 1 = outV (argsOf m) c :=
  (dats m ρ 0 c).arrAt_eq_of_after_last 1 t₀ (by decide +kernel) _ (fun j => rfl) (Memref.isWhole_whole _)

/-- The seven argument arrays of device `c` are in `r` what they are in `m`. -/
def Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

variable {m ρ} in
theorem QC.kept {r : PUnit × MemSt nD τ sig (Elt F)} (h : QC m ρ r) (c : Dev nD) : Kept m r c :=
  ⟨((h c).1 0).trans ((dats m ρ 0 c).arrAt_in 0 rfl _), (h c).2 main_arg1 (Pipeline.mem_restRefs_of main_arg1 (by decide) (by decide)),
    (h c).2 main_arg2 (Pipeline.mem_restRefs_of main_arg2 (by decide) (by decide)), (h c).2 main_arg3 (Pipeline.mem_restRefs_of main_arg3 (by decide) (by decide)),
    (h c).2 main_arg4 (Pipeline.mem_restRefs_of main_arg4 (by decide) (by decide)), (h c).2 main_arg5 (Pipeline.mem_restRefs_of main_arg5 (by decide) (by decide)),
    (h c).2 main_arg6 (Pipeline.mem_restRefs_of main_arg6 (by decide) (by decide))⟩

/-- A run keeps every argument and leaves every semaphore at zero. -/
theorem run_kept : θ_run defs (onTc (τ := τ) (main (F := F))) (s₀ m ρ) (fun r => (∀ c, Kept m r c) ∧ r.2.sem = fun _ => 0) :=
  (θ_run defs _ _).mono (fun _ h => ⟨h.1.kept, h.2⟩) (run_main m ρ)

/-- And every device's result is the last layer's value of the arguments. -/
theorem run_value : θ_run defs (onTc (τ := τ) (main (F := F))) (s₀ m ρ)
    (fun r => ∀ c : Dev nD, r.2.mem ((c.tc : Thread nD τ).loc main_v1) = outV (argsOf m) c ∧ Kept m r c) :=
  (θ_run defs _ _).mono (fun _ h c => ⟨((h.1 c).1 1).trans (finalA_out m ρ c), h.1.kept c⟩) (run_main m ρ)

end Cert.KernelIdeal.Run

end
-- ==== Proof.Value.lean ====
/-
# The value of the exact kernel

At exact values a layer of the ring, all-gather, the products of every device's tiles and reduce-scatter, is a layer of the
reference on the whole arrays: the sum over the devices and their tiles is the sum over the whole hidden dimension, in
another order and grouping.
-/
module

public import proofs.«01_k».proof.Proof.Final
public import proofs.«01_k».proof.Proof.Gen.ReferenceIdeal.Run
public import Idealize.ShloMosaic.Lib.Pointwise
public import Idealize.ShloMosaic.Lib.Pipeline.ValueKit.Acc
public import Idealize.ShloMosaic.Lib.Layout

@[expose] public section

noncomputable section

namespace Cert.KernelIdeal.Run

open Cert.KernelIdeal Cert.KernelIdeal.Gen
open Idealize.ShloMosaic Idealize.ShloMosaic.TcCoe Idealize.SL.Sem
open scoped BigOperators

/-! ## A device's product -/

/-- The two tiles of each weight, by coordinates. -/
theorem wi0_read (a : Vec Ideal S2048x4096 .f32) (i j : Fin 2048) :
    (wi0 (Memref.whole main_arg1)).view.read (Elt Ideal) a (ix2 i j) = a (ix2 i ⟨j.val, by omega⟩) := by
  show a ((wi0 (Memref.whole main_arg1)).view.emb (ix2 i j)) = _
  congr 1
  funext x
  match x with
  | 0 => exact Fin.ext (by show 0 + 1 * i.val = i.val; omega)
  | 1 => exact Fin.ext (by show 0 + 1 * j.val = j.val; omega)
theorem wi1_read (a : Vec Ideal S2048x4096 .f32) (i j : Fin 2048) :
    (wi1 (Memref.whole main_arg1)).view.read (Elt Ideal) a (ix2 i j) = a (ix2 i ⟨2048 + j.val, by omega⟩) := by
  show a ((wi1 (Memref.whole main_arg1)).view.emb (ix2 i j)) = _
  congr 1
  funext x
  match x with
  | 0 => exact Fin.ext (by show 0 + 1 * i.val = i.val; omega)
  | 1 => exact Fin.ext (by show 2048 + 1 * j.val = 2048 + j.val; omega)
theorem wo0_read (b : Vec Ideal S4096x2048 .f32) (i j : Fin 2048) :
    (wo0 (Memref.whole main_arg4)).view.read (Elt Ideal) b (ix2 i j) = b (ix2 ⟨i.val, by omega⟩ j) := by
  show b ((wo0 (Memref.whole main_arg4)).view.emb (ix2 i j)) = _
  congr 1
  funext x
  match x with
  | 0 => exact Fin.ext (by show 0 + 1 * i.val = i.val; omega)
  | 1 => exact Fin.ext (by show 0 + 1 * j.val = j.val; omega)
theorem wo1_read (b : Vec Ideal S4096x2048 .f32) (i j : Fin 2048) :
    (wo1 (Memref.whole main_arg4)).view.read (Elt Ideal) b (ix2 i j) = b (ix2 ⟨2048 + i.val, by omega⟩ j) := by
  show b ((wo1 (Memref.whole main_arg4)).view.emb (ix2 i j)) = _
  congr 1
  funext x
  match x with
  | 0 => exact Fin.ext (by show 2048 + 1 * i.val = 2048 + i.val; omega)
  | 1 => exact Fin.ext (by show 0 + 1 * j.val = j.val; omega)

set_option maxRecDepth 16384 in
theorem prods_apply (xg : Vec Ideal S256x2048 .bf16) (a0 a1 b0 b1 : Vec Ideal S2048x2048 .f32) (i : Fin 256) (j : Fin 2048) :
    prods xg a0 a1 b0 b1 (ix2 i j)
      = (∑ k : Fin 2048, max (∑ l : Fin 2048, (xg (ix2 i l) : EReal) * a0 (ix2 l k)) 0 * b0 (ix2 k j))
        + ∑ k : Fin 2048, max (∑ l : Fin 2048, (xg (ix2 i l) : EReal) * a1 (ix2 l k)) 0 * b1 (ix2 k j) := by
  unfold prods
  pointwise [k0_pay9, k0_pay8, k0_pay7, up2]

/-- The four tiles' product is the product over the device's whole part of the hidden dimension. -/
theorem prodV_apply (a : Vec Ideal S2048x4096 .f32) (b : Vec Ideal S4096x2048 .f32) (xg : Vec Ideal S256x2048 .bf16) (i : Fin 256) (j : Fin 2048) :
    prodV a b xg (ix2 i j)
      = ∑ k : Fin 4096, max (∑ l : Fin 2048, (xg (ix2 i l) : EReal) * a (ix2 l k)) 0 * b (ix2 k j) := by
  unfold prodV
  rw [prods_apply, Fin.sum_univ_two_halves 2048 2048 rfl]
  have h : ∀ {s s' t t' : EReal}, s = s' → t = t' → max s 0 * t = max s' 0 * t' := fun h h' => by rw [h, h']
  exact congrArg₂ (fun s t : EReal => s + t)
    (Finset.sum_congr rfl fun k _ => h (Finset.sum_congr rfl fun l _ => congrArg (fun t : EReal => (xg (ix2 i l) : EReal) * t) (wi0_read a l k)) (wo0_read b k j))
    (Finset.sum_congr rfl fun k _ => h (Finset.sum_congr rfl fun l _ => congrArg (fun t : EReal => (xg (ix2 i l) : EReal) * t) (wi1_read a l k)) (wo1_read b k j))

/-! ## A layer of the reference -/

/-- A layer on the whole arrays, as the reference writes it. -/
def refLayer (A : FVec Ideal Cert.ReferenceIdeal.S2048x16384 .f32) (B : FVec Ideal Cert.ReferenceIdeal.S16384x2048 .f32)
    (X : FVec Ideal S256x2048 .f32) : Vec Ideal S256x2048 .f32 :=
  Host.dotGeneral (F := Ideal) Cert.ReferenceIdeal.dot_S256x16384_S16384x2048_S256x2048_1_0_0_1_n_n none
    (maximumf (F := Ideal) (Host.dotGeneral (F := Ideal) Cert.ReferenceIdeal.dot_S256x2048_S2048x16384_S256x16384_1_0_0_1_n_n none X A)
      (broadcastInDim Cert.ReferenceIdeal.S256x16384 ![] Cert.ReferenceIdeal.Gen.bcast_S_S256x16384 (constant (F := Ideal) Cert.ReferenceIdeal.S_ .f32 0x00000000#32))) B

theorem refLayer_apply (A : FVec Ideal Cert.ReferenceIdeal.S2048x16384 .f32) (B : FVec Ideal Cert.ReferenceIdeal.S16384x2048 .f32)
    (X : FVec Ideal S256x2048 .f32) (i : Fin 256) (j : Fin 2048) :
    refLayer A B X (ix2 i j) = ∑ k : Fin 16384, max (∑ l : Fin 2048, (X (ix2 i l) : EReal) * A (ix2 l k)) 0 * B (ix2 k j) := by
  unfold refLayer
  pointwise

/-! ## Blocks -/

def blkX (c : Dev nD) (v : Vec Ideal S256x2048 .f32) : Vec Ideal S64x2048 .f32 := Layout.block ⟨2, ![64, 2048]⟩ ⟨2, ![256, 2048]⟩ 0 4 c v
def blkA (c : Dev nD) (v : FVec Ideal Cert.ReferenceIdeal.S2048x16384 .f32) : Vec Ideal S2048x4096 .f32 :=
  Layout.block ⟨2, ![2048, 4096]⟩ ⟨2, ![2048, 16384]⟩ 1 4 c v
def blkB (c : Dev nD) (v : FVec Ideal Cert.ReferenceIdeal.S16384x2048 .f32) : Vec Ideal S4096x2048 .f32 :=
  Layout.block ⟨2, ![4096, 2048]⟩ ⟨2, ![16384, 2048]⟩ 0 4 c v

theorem blkX_eq (c : Dev nD) (v : Vec Ideal S256x2048 .f32) : blkX c v = rows v c := by
  funext i
  show v _ = v _
  congr 1
  funext x
  match x with
  | 0 => exact Fin.ext (by show c.val * 64 + (i 0).val = 64 * c.val + (i 0).val; omega)
  | 1 => rfl
theorem blkA_apply (c : Dev nD) (v : FVec Ideal Cert.ReferenceIdeal.S2048x16384 .f32) (i : Fin 2048) (k : Fin 4096) :
    blkA c v (ix2 i k) = v (ix2 i ⟨c.val * 4096 + k.val, by have : c.val < 4 := c.isLt; omega⟩) := by
  show v _ = v _
  congr 1
  funext x
  match x with
  | 0 => rfl
  | 1 => rfl
theorem blkB_apply (c : Dev nD) (v : FVec Ideal Cert.ReferenceIdeal.S16384x2048 .f32) (k : Fin 4096) (j : Fin 2048) :
    blkB c v (ix2 k j) = v (ix2 ⟨c.val * 4096 + k.val, by have : c.val < 4 := c.isLt; omega⟩ j) := by
  show v _ = v _
  congr 1
  funext x
  match x with
  | 0 => rfl
  | 1 => rfl

/-- The devices' products of one input add up to the reference's layer. -/
theorem sum_prodV (A : FVec Ideal Cert.ReferenceIdeal.S2048x16384 .f32) (B : FVec Ideal Cert.ReferenceIdeal.S16384x2048 .f32)
    (X : FVec Ideal S256x2048 .f32) (i : S256x2048.Idx) :
    (∑ d : Dev nD, (prodV (blkA d A) (blkB d B) X i : EReal)) = refLayer A B X i := by
  obtain ⟨i, j, rfl⟩ : ∃ (a : Fin 256) (b : Fin 2048), i = ix2 a b := ⟨i 0, i 1, eq_ix2 i⟩
  rw [refLayer_apply]
  simp only [prodV_apply, blkA_apply, blkB_apply]
  exact Fin.sum_mul_add_fin 4 4096 (fun k : Fin 16384 => max (∑ l : Fin 2048, (X (ix2 i l) : EReal) * A (ix2 l k)) 0 * B (ix2 k j)) rfl

/-! ## The reduce-scatter -/

/-- The order in which the ring adds the four devices' parts is immaterial. -/
theorem ring_sum (f : Dev nD → EReal) (c : Dev nD) : f c + (f (opp c) + f (prv c)) + f (nxt c) = ∑ d : Dev nD, f d := by
  show _ = ∑ d : Fin 4, f d
  rw [Fin.sum_univ_four]
  match c with
  | 0 => show f 0 + (f 2 + f 3) + f 1 = _; abel
  | 1 => show f 1 + (f 3 + f 0) + f 2 = _; abel
  | 2 => show f 2 + (f 0 + f 1) + f 3 = _; abel
  | 3 => show f 3 + (f 1 + f 2) + f 0 = _; abel

theorem lastV_apply (p : Dev nD → Vec Ideal S256x2048 .f32) (c : Dev nD) (i : S64x2048.Idx) :
    lastV p c i = ∑ d : Dev nD, (rows (p d) c i : EReal) := by
  rw [← ring_sum (fun d => rows (p d) c i) c]
  obtain ⟨i, j, rfl⟩ : ∃ (a : Fin 64) (b : Fin 2048), i = ix2 a b := ⟨i 0, i 1, eq_ix2 i⟩
  unfold lastV inL inR R2 R0 R3
  pointwise [k0_pay1, k0_pay10, k0_pay11, k0_pay12, k0_pay13, up, dn]
  rw [prv_prv, nxt_prv, prv_nxt, show opp (opp c) = c by revert c; decide]

theorem nextV_eq (p : Dev nD → Vec Ideal S256x2048 .f32) (c : Dev nD) (i : S64x2048.Idx) : (nextV p c i : EReal) = lastV p c i := by
  obtain ⟨i, j, rfl⟩ : ∃ (a : Fin 64) (b : Fin 2048), i = ix2 a b := ⟨i 0, i 1, eq_ix2 i⟩
  unfold nextV lastV
  pointwise [k0_pay14, k0_pay1, up, dn]

/-! ## The layers -/

/-- The rows of every device gathered are the whole. -/
theorem gather_rows {e : EltTy} (f : Vec Ideal S256x2048 e) : gather (fun c => rows f c) = f := by
  funext i
  show f _ = f _
  congr 1
  funext x
  match x with
  | 0 => exact Fin.ext (Nat.div_add_mod _ _)
  | 1 => rfl

/-- The launch contents, as blocks of whole arrays. -/
structure Whole where
  x : Vec Ideal S256x2048 .f32
  a : ℕ → FVec Ideal Cert.ReferenceIdeal.S2048x16384 .f32
  b : ℕ → FVec Ideal Cert.ReferenceIdeal.S16384x2048 .f32

def Whole.args (W : Whole) : Args Ideal where
  x c := blkX c W.x
  a r c := blkA c (W.a r)
  b r c := blkB c (W.b r)

/-- The reference's activations after `r` layers. -/
def Whole.act (W : Whole) : ℕ → Vec Ideal S256x2048 .f32
  | 0 => W.x
  | r + 1 => refLayer (W.a r) (W.b r) (W.act r)

variable (W : Whole)

/-- Each device's part of a layer's sum is its rows of the reference's, if the layer's input is the reference's. -/
theorem lastV_act (r : ℕ) (c : Dev nD) (h : gather (Xs W.args r) = W.act r) : lastV (Pts W.args r) c = rows (W.act (r + 1)) c := by
  funext i
  rw [lastV_apply]
  have hp : ∀ d, Pts W.args r d = prodV (blkA d (W.a r)) (blkB d (W.b r)) (W.act r) := fun d => by rw [← h]; rfl
  simp only [hp]
  exact sum_prodV (W.a r) (W.b r) (W.act r) _

/-- Every layer's gathered input is the reference's. -/
theorem gather_act (r : ℕ) : gather (Xs W.args r) = W.act r := by
  induction r with
  | zero =>
    have hx : Xs W.args 0 = fun c => rows W.x c := by
      funext c i
      rw [← blkX_eq c W.x]
      obtain ⟨i, j, rfl⟩ : ∃ (a : Fin 64) (b : Fin 2048), i = ix2 a b := ⟨i 0, i 1, eq_ix2 i⟩
      unfold Xs
      pointwise [k0_pay2, dn]
      rfl
    rw [hx]
    exact gather_rows (e := .f32) W.x
  | succ r ih =>
    have hx : Xs W.args (r + 1) = fun c => rows (W.act (r + 1)) c := by
      funext c i
      rw [← lastV_act W r c ih]
      exact nextV_eq (Pts W.args r) c i
    rw [hx]
    exact gather_rows (e := .f32) (W.act (r + 1))

/-- Each device's result is its block of the reference's. -/
theorem outV_act (c : Dev nD) : outV W.args c = blkX c (W.act 3) :=
  (lastV_act W 2 c (gather_act W 2)).trans (blkX_eq c (W.act 3)).symm

end Cert.KernelIdeal.Run

end
-- ==== Proof.lean ====
/-
# The certificate of the ring MLP

Every run of the kernel, at rounded and at exact values, ends with its arguments unchanged and every semaphore at zero, and
so does the reference's. The runs are `Cert.Kernel.Run.run_kept` and `Cert.KernelIdeal.Run.run_kept`: the same proof, of
the two printings of one kernel. At exact values each device's result is moreover its block of the reference's result
(`Cert.KernelIdeal.Run.outV_act`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.RoundedFinal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem quiescent_kernel : Cert.quiescent_Kernel (hKernel := Cert.Kernel.Gen.facts) := fun m ρ _ => Cert.Kernel.Run.run_kept m ρ
theorem quiescent_kernelIdeal : Cert.quiescent_KernelIdeal (hKernelIdeal := Cert.KernelIdeal.Gen.facts) := fun m ρ _ => Cert.KernelIdeal.Run.run_kept m ρ
/-- The reference has no semaphore. -/
theorem quiescent_reference : Cert.quiescent_ReferenceIdeal (hReferenceIdeal := Cert.ReferenceIdeal.Gen.facts) := fun m ρ _ =>
  (θ_run (Cert.ReferenceIdeal.defs (F := Ideal)) _ _).mono (fun _ h => ⟨fun c => (h c).2, sem_eq_zero_of_no_sems (by decide) _⟩)
    (Cert.ReferenceIdeal.Value.run (F := Ideal) m ρ)

/-- The whole arrays that the reference's memory holds. -/
def whole (m' : (ℓ : Loc Cert.ReferenceIdeal.nD Cert.ReferenceIdeal.τ Cert.ReferenceIdeal.sig) → Buf (Elt Ideal) ℓ) : Cert.KernelIdeal.Run.Whole where
  x := m' ((0 : Dev Cert.ReferenceIdeal.nD).tc.loc Cert.ReferenceIdeal.main_arg0)
  a := fun
    | 0 => m' ((0 : Dev Cert.ReferenceIdeal.nD).tc.loc Cert.ReferenceIdeal.main_arg1)
    | 1 => m' ((0 : Dev Cert.ReferenceIdeal.nD).tc.loc Cert.ReferenceIdeal.main_arg2)
    | _ => m' ((0 : Dev Cert.ReferenceIdeal.nD).tc.loc Cert.ReferenceIdeal.main_arg3)
  b := fun
    | 0 => m' ((0 : Dev Cert.ReferenceIdeal.nD).tc.loc Cert.ReferenceIdeal.main_arg4)
    | 1 => m' ((0 : Dev Cert.ReferenceIdeal.nD).tc.loc Cert.ReferenceIdeal.main_arg5)
    | _ => m' ((0 : Dev Cert.ReferenceIdeal.nD).tc.loc Cert.ReferenceIdeal.main_arg6)

/-- Each device's result is its block of the activations after the third layer. -/
theorem algebraic_kernel : Cert.algebraic_KernelIdeal_ReferenceIdeal (hKernelIdeal := Cert.KernelIdeal.Gen.facts)
    (hReferenceIdeal := Cert.ReferenceIdeal.Gen.facts) := fun m ρ m' ρ' _ h => by
  have hI : Cert.KernelIdeal.Run.argsOf m = (whole m').args := by
    have hx : (Cert.KernelIdeal.Run.argsOf m).x = (whole m').args.x := funext fun c => (Cert.KernelIdeal.Run.argsOf_x m c).trans (h c).1
    have ha : (Cert.KernelIdeal.Run.argsOf m).a = (whole m').args.a := by
      funext r c
      match r with
      | 0 => exact (h c).2.1
      | 1 => exact (h c).2.2.1
      | _ + 2 => exact (h c).2.2.2.1
    have hb : (Cert.KernelIdeal.Run.argsOf m).b = (whole m').args.b := by
      funext r c
      match r with
      | 0 => exact (h c).2.2.2.2.1
      | 1 => exact (h c).2.2.2.2.2.1
      | _ + 2 => exact (h c).2.2.2.2.2.2
    cases hA : Cert.KernelIdeal.Run.argsOf m
    rw [hA] at hx ha hb
    cases hB : (whole m').args
    rw [hB] at hx ha hb
    dsimp only at hx ha hb
    rw [hx, ha, hb]
  refine ⟨(whole m').act 3, ?_, ?_⟩
  · refine (θ_run (Cert.KernelIdeal.defs (F := Ideal)) _ _).mono (fun r hr c => ⟨(hr c).1.trans ?_, (hr c).2⟩) (Cert.KernelIdeal.Run.run_value m ρ)
    rw [hI]
    exact Cert.KernelIdeal.Run.outV_act (whole m') c
  · exact (θ_run (Cert.ReferenceIdeal.defs (F := Ideal)) _ _).mono (fun r hr => ⟨(hr 0).1, (hr 0).2⟩) (Cert.ReferenceIdeal.Value.run (F := Ideal) m' ρ')

theorem claim : Cert.Claim := ⟨Cert.Kernel.Gen.facts, Cert.KernelIdeal.Gen.facts, Cert.ReferenceIdeal.Gen.facts,
  quiescent_kernel, quiescent_kernelIdeal, quiescent_reference, trivial, algebraic_kernel⟩

end Cert.Proof

end
